-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048 : Shape := ⟨2, ![8, 2048]⟩

class Facts : Prop where
  transposes_S256x256_S256x256_1_0 : S256x256.Transposes [1, 0] S256x256
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  reducesTo_S8x2048x256_S8x2048_d2 : S8x2048x256.ReducesTo [2] S8x2048
  h_S_ : 0 < S_.numel
  bcast_S_S8x2048 : S_.BroadcastsInDim S8x2048 (![] : Fin 0 → Fin S8x2048.rank)
  reducesTo_S8x2048x256_S_d0_1_2 : S8x2048x256.ReducesTo [0, 1, 2] S_
  reducesTo_S8x2048_S_d0_1 : S8x2048.ReducesTo [0, 1] S_
  dot_S8x2048x256_S256x256_S8x2048x256_2_0_01_1_n_n_wf : DotDims.WF S8x2048x256 S256x256 S8x2048x256 [2] [0] [0, 1] [1] [] []

variable [Facts]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def fn_silu {F : FTy → Type} [FloatOps F] (arg0 : FVec F S8x2048x256 .f32) : FVec F S8x2048x256 .f32 :=
  let v0 : FVec F S8x2048x256 .f32 := Host.negf arg0
  let v1 : FVec F S8x2048x256 .f32 := Host.exp v0
  let cst : FVec F S_ .f32 := constant S_ .f32 0x3F800000#32
  let v2 : FVec F S8x2048x256 .f32 := broadcastInDim S8x2048x256 ![] bcast_S_S8x2048x256 cst
  let v3 : FVec F S8x2048x256 .f32 := addf v2 v1
  let cst_0 : FVec F S_ .f32 := constant S_ .f32 0x3F800000#32
  let v4 : FVec F S8x2048x256 .f32 := broadcastInDim S8x2048x256 ![] bcast_S_S8x2048x256 cst_0
  let v5 : FVec F S8x2048x256 .f32 := Host.divf v4 v3
  let v6 : FVec F S8x2048x256 .f32 := mulf arg0 v5
  v6

def fn_part1 {F : FTy → Type} [FloatOps F] (main_v5 : FVec F S8x2048x256 .f32) (main_v19 : FVec F S8x2048 .f32) : IVec S_ 1 :=
  let main_v20 : FVec F S8x2048x256 .f32 := Host.absf main_v5
  let main_cst_3 : FVec F S_ .f32 := constant S_ .f32 0x7F800000#32
  let main_v21 : FVec F S8x2048x256 .f32 := broadcastInDim S8x2048x256 ![] bcast_S_S8x2048x256 main_cst_3
  let main_v22 : IVec S8x2048x256 1 := cmpf .olt main_v20 main_v21
  let main_c : IVec S_ 1 := constantI S_ 1 1#1
  let main_v23 : IVec S_ 1 := (fun x v => Host.reduce IntOp.andi x v reducesTo_S8x2048x256_S_d0_1_2 h_S_) main_v22 main_c
  let main_cst_4 : FVec F S_ .f32 := constant S_ .f32 0x0DA24260#32
  let main_v24 : FVec F S8x2048 .f32 := broadcastInDim S8x2048 ![] bcast_S_S8x2048 main_cst_4
  let main_v25 : IVec S8x2048 1 := cmpf .oge main_v19 main_v24
  let main_c_5 : IVec S_ 1 := constantI S_ 1 1#1
  let main_v26 : IVec S_ 1 := (fun x v => Host.reduce IntOp.andi x v reducesTo_S8x2048_S_d0_1 h_S_) main_v25 main_c_5
  let main_v27 : IVec S_ 1 := andi main_v23 main_v26
  main_v27

def fn {F : FTy → Type} [FloatOps F] (main_arg0 : FVec F S8x2048x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x256 .f32) (main_arg12 : FVec F S256 .f32) : IVec S_ 1 :=
  let main_v0 : FVec F S256x256 .f32 := (transpose S256x256 [1, 0] · transposes_S256x256_S256x256_1_0) main_arg5
  let main_v1 : FVec F S8x2048x256 .f32 := (fun l r => Host.dotGeneral dot_S8x2048x256_S256x256_S8x2048x256_2_0_01_1_n_n none l r) main_arg0 main_v0
  let main_v2 : FVec F S1x1x256 .f32 := broadcastInDim S1x1x256 ![2] bcast_S256_S1x1x256_2 main_arg6
  let main_v3 : FVec F S8x2048x256 .f32 := broadcastInDim S8x2048x256 ![0, 1, 2] bcast_S1x1x256_S8x2048x256_0_1_2 main_v2
  let main_v4 : FVec F S8x2048x256 .f32 := addf main_v1 main_v3
  let main_v5 : FVec F S8x2048x256 .f32 := fn_silu (F := F) main_v4
  let main_v6 : FVec F S256x256 .f32 := (transpose S256x256 [1, 0] · transposes_S256x256_S256x256_1_0) main_arg7
  let main_v7 : FVec F S8x2048x256 .f32 := (fun l r => Host.dotGeneral dot_S8x2048x256_S256x256_S8x2048x256_2_0_01_1_n_n none l r) main_arg0 main_v6
  let main_v8 : FVec F S1x1x256 .f32 := broadcastInDim S1x1x256 ![2] bcast_S256_S1x1x256_2 main_arg8
  let main_v9 : FVec F S8x2048x256 .f32 := broadcastInDim S8x2048x256 ![0, 1, 2] bcast_S1x1x256_S8x2048x256_0_1_2 main_v8
  let main_v10 : FVec F S8x2048x256 .f32 := addf main_v7 main_v9
  let main_v11 : FVec F S8x2048x256 .f32 := Host.negf main_v10
  let main_v12 : FVec F S8x2048x256 .f32 := Host.exp main_v11
  let main_cst : FVec F S_ .f32 := constant S_ .f32 0x3F800000#32
  let main_v13 : FVec F S8x2048x256 .f32 := broadcastInDim S8x2048x256 ![] bcast_S_S8x2048x256 main_cst
  let main_v14 : FVec F S8x2048x256 .f32 := addf main_v13 main_v12
  let main_cst_0 : FVec F S_ .f32 := constant S_ .f32 0x3F800000#32
  let main_v15 : FVec F S8x2048x256 .f32 := broadcastInDim S8x2048x256 ![] bcast_S_S8x2048x256 main_cst_0
  let main_v16 : FVec F S8x2048x256 .f32 := Host.divf main_v15 main_v14
  let main_cst_1 : FVec F S_ .f32 := constant S_ .f32 0x00000000#32
  let main_v17 : FVec F S8x2048 .f32 := (fun x v => Host.reduceAdd x v reducesTo_S8x2048x256_S8x2048_d2 h_S_) main_v16 main_cst_1
  let main_cst_2 : FVec F S_ .f32 := constant S_ .f32 0x43800000#32
  let main_v18 : FVec F S8x2048 .f32 := broadcastInDim S8x2048 ![] bcast_S_S8x2048 main_cst_2
  let main_v19 : FVec F S8x2048 .f32 := Host.divf main_v17 main_v18
  fn_part1 (F := F) main_v5 main_v19
-- ==== Kernel.lean ====
abbrev S8x2048x256 : Shape := ⟨3, ![8, 2048, 256]⟩
abbrev S256x256 : Shape := ⟨2, ![256, 256]⟩
abbrev S256 : Shape := ⟨1, ![256]⟩
abbrev S256x1280 : Shape := ⟨2, ![256, 1280]⟩
abbrev S1280 : Shape := ⟨1, ![1280]⟩
abbrev S1x1280 : Shape := ⟨2, ![1, 1280]⟩
abbrev S1x256 : Shape := ⟨2, ![1, 256]⟩
abbrev S8x128x256 : Shape := ⟨3, ![8, 128, 256]⟩
abbrev S128x128 : Shape := ⟨2, ![128, 128]⟩
abbrev S64x64 : Shape := ⟨2, ![64, 64]⟩
abbrev S1024x256 : Shape := ⟨2, ![1024, 256]⟩
abbrev S1024x1280 : Shape := ⟨2, ![1024, 1280]⟩
abbrev S1024 : Shape := ⟨1, ![1024]⟩
abbrev S1024x1 : Shape := ⟨2, ![1024, 1]⟩
abbrev S128x256 : Shape := ⟨2, ![128, 256]⟩
abbrev S128x1 : Shape := ⟨2, ![128, 1]⟩
abbrev S1x128 : Shape := ⟨2, ![1, 128]⟩
abbrev S64x256 : Shape := ⟨2, ![64, 256]⟩
abbrev S1x1 : Shape := ⟨2, ![1, 1]⟩

abbrev nBuf : Space → Nat
  | .hbm => 26
  | .vmem => 16
  | .smem => 0
  | _ => 0

abbrev bufTy : (tb : Table) → Fin (tcTables nBuf tb) → BufTy
  | .hbm, ⟨0, _⟩ => ⟨S8x2048x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x1280, .f32⟩
  | .hbm, ⟨19, _⟩ => ⟨S256x1280, .bf16⟩
  | .hbm, ⟨20, _⟩ => ⟨S1280, .f32⟩
  | .hbm, ⟨21, _⟩ => ⟨S1x1280, .f32⟩
  | .hbm, ⟨22, _⟩ => ⟨S256x256, .f32⟩
  | .hbm, ⟨23, _⟩ => ⟨S256x256, .bf16⟩
  | .hbm, ⟨24, _⟩ => ⟨S1x256, .f32⟩
  | .hbm, ⟨25, _⟩ => ⟨S8x2048x256, .f32⟩
  | .local _ .vmem, ⟨0, _⟩ => ⟨S8x128x256, .f32⟩
  | .local _ .vmem, ⟨1, _⟩ => ⟨S8x128x256, .f32⟩
  | .local _ .vmem, ⟨2, _⟩ => ⟨S256x1280, .bf16⟩
  | .local _ .vmem, ⟨3, _⟩ => ⟨S1x1280, .f32⟩
  | .local _ .vmem, ⟨4, _⟩ => ⟨S256x256, .bf16⟩
  | .local _ .vmem, ⟨5, _⟩ => ⟨S1x256, .f32⟩
  | .local _ .vmem, ⟨6, _⟩ => ⟨S8x128x256, .f32⟩
  | .local _ .vmem, ⟨7, _⟩ => ⟨S8x128x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x2048x256 : Shape := ⟨3, ![8, 2048, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S8x2048 : Shape := ⟨2, ![8, 2048]⟩
abbrev S8x2048x1 : Shape := ⟨3, ![8, 2048, 1]⟩
abbrev S8x256x256 : Shape := ⟨3, ![8, 256, 256]⟩
abbrev S2048x8x256 : Shape := ⟨3, ![2048, 8, 256]⟩
abbrev S2048x8 : Shape := ⟨2, ![2048, 8]⟩
abbrev S1x8x256 : Shape := ⟨3, ![1, 8, 256]⟩
abbrev S8x256 : Shape := ⟨2, ![8, 256]⟩
abbrev S1x8 : Shape := ⟨2, ![1, 8]⟩
abbrev S8 : Shape := ⟨1, ![8]⟩
abbrev S8x256x1 : Shape := ⟨3, ![8, 256, 1]⟩
abbrev S8x1x256 : Shape := ⟨3, ![8, 1, 256]⟩
abbrev S1x256x256 : Shape := ⟨3, ![1, 256, 256]⟩
abbrev S8x1x1 : Shape := ⟨3, ![8, 1, 1]⟩

abbrev nBuf : Space → Nat
  | .hbm => 194
  | .vmem => 0
  | .smem => 0
  | _ => 0

abbrev hbmTy0_0 (i : Nat) : BufTy := match i % 128 with
  | 0 => ⟨S8x2048x256, .f32⟩
  | 1 => ⟨S256x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x256, .f32⟩
  | 10 => ⟨S256, .f32⟩
  | 11 => ⟨S256x256, .f32⟩
  | 12 => ⟨S256, .f32⟩
  | 13 => ⟨S256x256, .f32⟩
  | 14 => ⟨S8x2048x256, .f32⟩
  | 15 => ⟨S1x1x256, .f32⟩
  | 16 => ⟨S8x2048x256, .f32⟩
  | 17 => ⟨S8x2048x256, .f32⟩
  | 18 => ⟨S8x2048x256, .f32⟩
  | 19 => ⟨S8x2048x256, .f32⟩
  | 20 => ⟨S_, .f32⟩
  | 21 => ⟨S8x2048x256, .f32⟩
  | 22 => ⟨S8x2048x256, .f32⟩
  | 23 => ⟨S_, .f32⟩
  | 24 => ⟨S8x2048x256, .f32⟩
  | 25 => ⟨S8x2048x256, .f32⟩
  | 26 => ⟨S8x2048x256, .f32⟩
  | 27 => ⟨S8x2048x256, .f32⟩
  | 28 => ⟨S_, .f32⟩
  | 29 => ⟨S8x2048, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x256, .f32⟩
  | 36 => ⟨S8x2048x256, .f32⟩
  | 37 => ⟨S256x256, .f32⟩
  | 38 => ⟨S8x2048x256, .f32⟩
  | 39 => ⟨S1x1x256, .f32⟩
  | 40 => ⟨S8x2048x256, .f32⟩
  | 41 => ⟨S8x2048x256, .f32⟩
  | 42 => ⟨S8x2048x256, .f32⟩
  | 43 => ⟨S8x2048x256, .f32⟩
  | 44 => ⟨S_, .f32⟩
  | 45 => ⟨S8x2048x256, .f32⟩
  | 46 => ⟨S8x2048x256, .f32⟩
  | 47 => ⟨S_, .f32⟩
  | 48 => ⟨S8x2048x256, .f32⟩
  | 49 => ⟨S8x2048x256, .f32⟩
  | 50 => ⟨S8x2048x256, .f32⟩
  | 51 => ⟨S8x2048x256, .f32⟩
  | 52 => ⟨S_, .f32⟩
  | 53 => ⟨S8x2048, .f32⟩
  | 54 => ⟨S8x2048x1, .f32⟩
  | 55 => ⟨S8x2048x1, .f32⟩
  | 56 => ⟨S_, .f32⟩
  | 57 => ⟨S8x2048x1, .f32⟩
  | 58 => ⟨S8x2048x1, .f32⟩
  | 59 => ⟨S8x2048x256, .f32⟩
  | 60 => ⟨S8x2048x256, .f32⟩
  | 61 => ⟨S256x256, .f32⟩
  | 62 => ⟨S8x2048x256, .f32⟩
  | 63 => ⟨S1x1x256, .f32⟩
  | 64 => ⟨S8x2048x256, .f32⟩
  | 65 => ⟨S8x2048x256, .f32⟩
  | 66 => ⟨S8x2048x256, .f32⟩
  | 67 => ⟨S8x2048x256, .f32⟩
  | 68 => ⟨S_, .f32⟩
  | 69 => ⟨S8x2048x256, .f32⟩
  | 70 => ⟨S8x2048x256, .f32⟩
  | 71 => ⟨S_, .f32⟩
  | 72 => ⟨S8x2048x256, .f32⟩
  | 73 => ⟨S8x2048x256, .f32⟩
  | 74 => ⟨S8x2048x256, .f32⟩
  | 75 => ⟨S256x256, .f32⟩
  | 76 => ⟨S8x2048x256, .f32⟩
  | 77 => ⟨S1x1x256, .f32⟩
  | 78 => ⟨S8x2048x256, .f32⟩
  | 79 => ⟨S8x2048x256, .f32⟩
  | 80 => ⟨S8x2048x256, .f32⟩
  | 81 => ⟨S8x2048x256, .f32⟩
  | 82 => ⟨S_, .f32⟩
  | 83 => ⟨S8x2048x256, .f32⟩
  | 84 => ⟨S8x2048x256, .f32⟩
  | 85 => ⟨S_, .f32⟩
  | 86 => ⟨S8x2048x256, .f32⟩
  | 87 => ⟨S8x2048x256, .f32⟩
  | 88 => ⟨S_, .f32⟩
  | 89 => ⟨S8x2048, .f32⟩
  | 90 => ⟨S_, .f32⟩
  | 91 => ⟨S8x2048, .f32⟩
  | 92 => ⟨S8x2048, .f32⟩
  | 93 => ⟨S256x256, .f32⟩
  | 94 => ⟨S8x2048x256, .f32⟩
  | 95 => ⟨S1x1x256, .f32⟩
  | 96 => ⟨S8x2048x256, .f32⟩
  | 97 => ⟨S8x2048x256, .f32⟩
  | 98 => ⟨S8x2048x256, .f32⟩
  | 99 => ⟨S8x2048x256, .f32⟩
  | 100 => ⟨S_, .f32⟩
  | 101 => ⟨S8x2048x256, .f32⟩
  | 102 => ⟨S8x2048x256, .f32⟩
  | 103 => ⟨S_, .f32⟩
  | 104 => ⟨S8x2048x256, .f32⟩
  | 105 => ⟨S8x2048x256, .f32⟩
  | 106 => ⟨S_, .f32⟩
  | 107 => ⟨S8x2048, .f32⟩
  | 108 => ⟨S_, .f32⟩
  | 109 => ⟨S8x2048, .f32⟩
  | 110 => ⟨S8x2048, .f32⟩
  | 111 => ⟨S256x256, .i32⟩
  | 112 => ⟨S256x256, .i32⟩
  | 113 => ⟨S_, .i32⟩
  | 114 => ⟨S256x256, .i32⟩
  | 115 => ⟨S256x256, .i32⟩
  | 116 => ⟨S256x256, .i1⟩
  | 117 => ⟨S256x256, .f32⟩
  | 118 => ⟨S_, .f32⟩
  | 119 => ⟨S8x256x256, .f32⟩
  | 120 => ⟨S2048x8x256, .f32⟩
  | 121 => ⟨S2048x8x256, .f32⟩
  | 122 => ⟨S2048x8x256, .f32⟩
  | 123 => ⟨S2048x8, .f32⟩
  | 124 => ⟨S2048x8, .f32⟩
  | 125 => ⟨S_, .f32⟩
  | 126 => ⟨S2048x8x256, .f32⟩
  | 127 => ⟨S_, .i32⟩
  | _ => ⟨S8x2048x256, .f32⟩

abbrev hbmTy0_1 (i : Nat) : BufTy := match i % 128 with
  | 0 => ⟨S2048x8x256, .f32⟩
  | 1 => ⟨S2048x8x256, .f32⟩
  | 2 => ⟨S2048x8x256, .f32⟩
  | 3 => ⟨S2048x8, .f32⟩
  | 4 => ⟨S2048x8, .f32⟩
  | 5 => ⟨S256x256, .f32⟩
  | 6 => ⟨S_, .i32⟩
  | 7 => ⟨S8x256x256, .f32⟩
  | 8 => ⟨S2048x8x256, .f32⟩
  | 9 => ⟨S_, .i32⟩
  | 10 => ⟨S_, .i1⟩
  | 11 => ⟨S_, .i32⟩
  | 12 => ⟨S_, .i32⟩
  | 13 => ⟨S1x8x256, .f32⟩
  | 14 => ⟨S8x256, .f32⟩
  | 15 => ⟨S_, .i32⟩
  | 16 => ⟨S_, .i32⟩
  | 17 => ⟨S1x8x256, .f32⟩
  | 18 => ⟨S8x256, .f32⟩
  | 19 => ⟨S_, .i32⟩
  | 20 => ⟨S_, .i32⟩
  | 21 => ⟨S1x8x256, .f32⟩
  | 22 => ⟨S8x256, .f32⟩
  | 23 => ⟨S_, .i32⟩
  | 24 => ⟨S1x8, .f32⟩
  | 25 => ⟨S8, .f32⟩
  | 26 => ⟨S_, .i32⟩
  | 27 => ⟨S1x8, .f32⟩
  | 28 => ⟨S8, .f32⟩
  | 29 => ⟨S8x256x1, .f32⟩
  | 30 => ⟨S8x1x256, .f32⟩
  | 31 => ⟨S8x256x256, .f32⟩
  | 32 => ⟨S8x256x256, .f32⟩
  | 33 => ⟨S8x256x256, .f32⟩
  | 34 => ⟨S1x256x256, .f32⟩
  | 35 => ⟨S8x1x1, .f32⟩
  | 36 => ⟨S8x256x256, .f32⟩
  | 37 => ⟨S8x256x256, .f32⟩
  | 38 => ⟨S8x256x256, .f32⟩
  | 39 => ⟨S8x256x256, .f32⟩
  | 40 => ⟨S8x1x1, .f32⟩
  | 41 => ⟨S8x256x256, .f32⟩
  | 42 => ⟨S8x256x256, .f32⟩
  | 43 => ⟨S8x256x256, .f32⟩
  | 44 => ⟨S8x1x1, .f32⟩
  | 45 => ⟨S8x256x1, .f32⟩
  | 46 => ⟨S8x1x256, .f32⟩
  | 47 => ⟨S8x256x256, .f32⟩
  | 48 => ⟨S8x256x256, .f32⟩
  | 49 => ⟨S8x256x256, .f32⟩
  | 50 => ⟨S8x256x256, .f32⟩
  | 51 => ⟨S8x256x256, .f32⟩
  | 52 => ⟨S8x256x256, .f32⟩
  | 53 => ⟨S8x256, .f32⟩
  | 54 => ⟨S1x8x256, .f32⟩
  | 55 => ⟨S_, .i32⟩
  | 56 => ⟨S_, .i32⟩
  | 57 => ⟨S2048x8x256, .f32⟩
  | 58 => ⟨S_, .i32⟩
  | 59 => ⟨S_, .i32⟩
  | 60 => ⟨S8x2048x256, .f32⟩
  | 61 => ⟨S256x256, .f32⟩
  | 62 => ⟨S8x2048x256, .f32⟩
  | 63 => ⟨S1x1x256, .f32⟩
  | 64 => ⟨S8x2048x256, .f32⟩
  | 65 => ⟨S8x2048x256, .f32⟩
  | _ => ⟨S8x2048x256, .f32⟩

abbrev hbmTy (i : Nat) : BufTy := match i / 128 with
  | 0 => hbmTy0_0 i
  | 1 => hbmTy0_1 i
  | _ => ⟨S8x2048x256, .f32⟩

abbrev bufTy : (tb : Table) → Fin (tcTables nBuf tb) → BufTy
  | .hbm, ⟨i, _⟩ => hbmTy i
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v5 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v16 : Ref sig .tc := ⟨.hbm, 50, rfl⟩
abbrev main_call3_v0 : Ref sig .tc := ⟨.hbm, 51, rfl⟩
abbrev main_call3_cst : Ref sig .tc := ⟨.hbm, 52, rfl⟩
abbrev main_call3_v1 : Ref sig .tc := ⟨.hbm, 53, rfl⟩
abbrev main_call3_v2 : Ref sig .tc := ⟨.hbm, 54, rfl⟩
abbrev main_v17 : Ref sig .tc := ⟨.hbm, 55, rfl⟩
abbrev main_cst_0 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_cst_0 : Ref sig .tc := ⟨.hbm, 71, rfl⟩
abbrev main_call4_v4 : Ref sig .tc := ⟨.hbm, 72, rfl⟩
abbrev main_call4_v5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_1 : Ref sig .tc := ⟨.hbm, 82, rfl⟩
abbrev main_v35 : Ref sig .tc := ⟨.hbm, 83, rfl⟩
abbrev main_v36 : Ref sig .tc := ⟨.hbm, 84, rfl⟩
abbrev main_cst_2 : Ref sig .tc := ⟨.hbm, 85, rfl⟩
abbrev main_v37 : Ref sig .tc := ⟨.hbm, 86, rfl⟩
abbrev main_v38 : Ref sig .tc := ⟨.hbm, 87, rfl⟩
abbrev main_cst_3 : Ref sig .tc := ⟨.hbm, 88, rfl⟩
abbrev main_v39 : Ref sig .tc := ⟨.hbm, 89, rfl⟩
abbrev main_cst_4 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_cst_5 : Ref sig .tc := ⟨.hbm, 100, rfl⟩
abbrev main_v49 : Ref sig .tc := ⟨.hbm, 101, rfl⟩
abbrev main_v50 : Ref sig .tc := ⟨.hbm, 102, rfl⟩
abbrev main_cst_6 : Ref sig .tc := ⟨.hbm, 103, rfl⟩
abbrev main_v51 : Ref sig .tc := ⟨.hbm, 104, rfl⟩
abbrev main_v52 : Ref sig .tc := ⟨.hbm, 105, rfl⟩
abbrev main_cst_7 : Ref sig .tc := ⟨.hbm, 106, rfl⟩
abbrev main_v53 : Ref sig .tc := ⟨.hbm, 107, rfl⟩
abbrev main_cst_8 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_c : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_9 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_cst_10 : Ref sig .tc := ⟨.hbm, 125, rfl⟩
abbrev main_v68 : Ref sig .tc := ⟨.hbm, 126, rfl⟩
abbrev main_c_11 : Ref sig .tc := ⟨.hbm, 127, rfl⟩
abbrev main_v69_0 : Ref sig .tc := ⟨.hbm, 128, rfl⟩
abbrev main_v69_1 : Ref sig .tc := ⟨.hbm, 129, rfl⟩
abbrev main_v69_2 : Ref sig .tc := ⟨.hbm, 130, rfl⟩
abbrev main_v69_3 : Ref sig .tc := ⟨.hbm, 131, rfl⟩
abbrev main_v69_4 : Ref sig .tc := ⟨.hbm, 132, rfl⟩
abbrev main_v69_5 : Ref sig .tc := ⟨.hbm, 133, rfl⟩
abbrev main_v69_6 : Ref sig .tc := ⟨.hbm, 134, rfl⟩
abbrev main_v69_7 : Ref sig .tc := ⟨.hbm, 135, rfl⟩
abbrev main_v69_8 : Ref sig .tc := ⟨.hbm, 136, rfl⟩
abbrev main_while0c_c_20 : Ref sig .tc := ⟨.hbm, 137, rfl⟩
abbrev main_while0c_v76 : Ref sig .tc := ⟨.hbm, 138, rfl⟩
abbrev main_while0b_call5_c : Ref sig .tc := ⟨.hbm, 139, rfl⟩
abbrev main_while0b_call5_c_0 : Ref sig .tc := ⟨.hbm, 140, rfl⟩
abbrev main_while0b_call5_v0 : Ref sig .tc := ⟨.hbm, 141, rfl⟩
abbrev main_while0b_v76 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_v0 : Ref sig .tc := ⟨.hbm, 145, rfl⟩
abbrev main_while0b_v77 : Ref sig .tc := ⟨.hbm, 146, rfl⟩
abbrev main_while0b_call7_c : Ref sig .tc := ⟨.hbm, 147, rfl⟩
abbrev main_while0b_call7_c_0 : Ref sig .tc := ⟨.hbm, 148, rfl⟩
abbrev main_while0b_call7_v0 : Ref sig .tc := ⟨.hbm, 149, rfl⟩
abbrev main_while0b_v78 : Ref sig .tc := ⟨.hbm, 150, rfl⟩
abbrev main_while0b_call8_c : Ref sig .tc := ⟨.hbm, 151, rfl⟩
abbrev main_while0b_call8_v0 : Ref sig .tc := ⟨.hbm, 152, rfl⟩
abbrev main_while0b_v79 : Ref sig .tc := ⟨.hbm, 153, rfl⟩
abbrev main_while0b_call9_c : Ref sig .tc := ⟨.hbm, 154, rfl⟩
abbrev main_while0b_call9_v0 : Ref sig .tc := ⟨.hbm, 155, rfl⟩
abbrev main_while0b_v80 : Ref sig .tc := ⟨.hbm, 156, rfl⟩
abbrev main_while0b_v81 : Ref sig .tc := ⟨.hbm, 157, rfl⟩
abbrev main_while0b_v82 : Ref sig .tc := ⟨.hbm, 158, rfl⟩
abbrev main_while0b_v83 : Ref sig .tc := ⟨.hbm, 159, rfl⟩
abbrev main_while0b_v84 : Ref sig .tc := ⟨.hbm, 160, rfl⟩
abbrev main_while0b_v85 : Ref sig .tc := ⟨.hbm, 161, rfl⟩
abbrev main_while0b_v86 : Ref sig .tc := ⟨.hbm, 162, rfl⟩
abbrev main_while0b_v87 : Ref sig .tc := ⟨.hbm, 163, rfl⟩
abbrev main_while0b_v88 : Ref sig .tc := ⟨.hbm, 164, rfl⟩
abbrev main_while0b_v89 : Ref sig .tc := ⟨.hbm, 165, rfl⟩
abbrev main_while0b_v90 : Ref sig .tc := ⟨.hbm, 166, rfl⟩
abbrev main_while0b_v91 : Ref sig .tc := ⟨.hbm, 167, rfl⟩
abbrev main_while0b_v92 : Ref sig .tc := ⟨.hbm, 168, rfl⟩
abbrev main_while0b_v93 : Ref sig .tc := ⟨.hbm, 169, rfl⟩
abbrev main_while0b_v94 : Ref sig .tc := ⟨.hbm, 170, rfl⟩
abbrev main_while0b_v95 : Ref sig .tc := ⟨.hbm, 171, rfl⟩
abbrev main_while0b_v96 : Ref sig .tc := ⟨.hbm, 172, rfl⟩
abbrev main_while0b_v97 : Ref sig .tc := ⟨.hbm, 173, rfl⟩
abbrev main_while0b_v98 : Ref sig .tc := ⟨.hbm, 174, rfl⟩
abbrev main_while0b_v99 : Ref sig .tc := ⟨.hbm, 175, rfl⟩
abbrev main_while0b_v100 : Ref sig .tc := ⟨.hbm, 176, rfl⟩
abbrev main_while0b_v101 : Ref sig .tc := ⟨.hbm, 177, rfl⟩
abbrev main_while0b_v102 : Ref sig .tc := ⟨.hbm, 178, rfl⟩
abbrev main_while0b_v103 : Ref sig .tc := ⟨.hbm, 179, rfl⟩
abbrev main_while0b_v104 : Ref sig .tc := ⟨.hbm, 180, rfl⟩
abbrev main_while0b_v105 : Ref sig .tc := ⟨.hbm, 181, rfl⟩
abbrev main_while0b_call10_v0 : Ref sig .tc := ⟨.hbm, 182, rfl⟩
abbrev main_while0b_call10_c : Ref sig .tc := ⟨.hbm, 183, rfl⟩
abbrev main_while0b_call10_c_0 : Ref sig .tc := ⟨.hbm, 184, rfl⟩
abbrev main_while0b_v106 : Ref sig .tc := ⟨.hbm, 185, rfl⟩
abbrev main_while0b_c_20 : Ref sig .tc := ⟨.hbm, 186, rfl⟩
abbrev main_while0b_v107 : Ref sig .tc := ⟨.hbm, 187, rfl⟩
abbrev main_v70 : Ref sig .tc := ⟨.hbm, 188, rfl⟩
abbrev main_v71 : Ref sig .tc := ⟨.hbm, 189, rfl⟩
abbrev main_v72 : Ref sig .tc := ⟨.hbm, 190, rfl⟩
abbrev main_v73 : Ref sig .tc := ⟨.hbm, 191, rfl⟩
abbrev main_v74 : Ref sig .tc := ⟨.hbm, 192, rfl⟩
abbrev main_v75 : Ref sig .tc := ⟨.hbm, 193, rfl⟩

abbrev nD : Nat := 1
abbrev τ : Topo := Topo.v7x

variable {F : FTy → Type} [FloatOps F]

abbrev main_while0_count : Scf.Loop 32 := ⟨0#32, 2048#32, 1#32⟩
-- ==== Proof.Chunk.lean ====
/- The kernel's work on ONE batch's chunk of 128 tokens, written once as functions of the batch's blocks.
   The body unrolls eight batches; each batch's chain of payloads is an instance of these (`Opened.lean`). -/
module

public import proofs.«01_k».proof.Proof.Gen.KernelIdeal.Skeleton

@[expose] public section

set_option maxRecDepth 16384

noncomputable section

open Idealize.ShloMosaic

namespace Cert.KernelIdeal.Chunk

open Cert.KernelIdeal Cert.KernelIdeal.Gen

/-- The logarithms' running sum over the chunk: the lower triangle of ones times the column of logarithms. -/
def logSum (la : FVec Ideal S128x1 .f32) : FVec Ideal S128x1 .f32 :=
  matmul dot_S128x128_S128x1_S128x1_1_0_0_1_n_n none k0_pay12 la (constant S128x1 .f32 0x00000000#32)

/-- The decay from a token to a later one, zero elsewhere (the mask's exponential vanishes). -/
def ratio (Lc : FVec Ideal S128x1 .f32) : FVec Ideal S128x128 .f32 :=
  exp (select
    (cmpi .sgt (iota .tc S128x128 32 [0] iota_S128x128_d0_w32) (iota .tc S128x128 32 [1] iota_S128x128_d1_w32))
    (subf (broadcastTo S128x128 Lc broadcasts_S128x1_S128x128)
      (broadcastTo S128x128 (shapeCast S1x128 Lc shapeCasts_S128x1_S1x128) broadcasts_S1x128_S128x128))
    (broadcast S128x128 (Named.named κ "mask" 0xF149F2CA#32)))

/-- The right-hand side of the chunk's triangular system: `b (v - A (S k))`. -/
def rhs (kb vb : FVec Ideal S128x256 .bf16) (bg Lc : FVec Ideal S128x1 .f32) (S : FVec Ideal S256x256 .f32) :
    FVec Ideal S128x256 .f32 :=
  mulf (broadcastTo S128x256 bg broadcasts_S128x1_S128x256)
    (subf (extf .f32 vb bitsLt_bf16_f32)
      (mulf (broadcastTo S128x256 (exp Lc) broadcasts_S128x1_S128x256)
        (matmul dot_S128x256_S256x256_S128x256_1_1_0_0_n_n none kb (truncf .bf16 S bitsLt_bf16_f32)
          (constant S128x256 .f32 0x00000000#32))))

/-- The strictly lower part of the chunk's triangular system: `b (G (k kᵀ))`. -/
def low (kb : FVec Ideal S128x256 .bf16) (bg Lc : FVec Ideal S128x1 .f32) : FVec Ideal S128x128 .f32 :=
  mulf (broadcastTo S128x128 bg broadcasts_S128x1_S128x128)
    (mulf (ratio Lc)
      (matmul dot_S128x256_S128x256_S128x128_1_1_0_0_n_n none kb kb (constant S128x128 .f32 0x00000000#32)))

/-- A product of two 64 × 64 matrices. -/
def mm64 (x y : FVec Ideal S64x64 .f32) : FVec Ideal S64x64 .f32 :=
  matmul dot_S64x64_S64x64_S64x64_1_0_0_1_n_n none x y (constant S64x64 .f32 0x00000000#32)

/-- One factor more: `P (1 + N)`. -/
def grow (P N : FVec Ideal S64x64 .f32) : FVec Ideal S64x64 .f32 := mm64 P (addf k0_pay14 N)

/-- The product `(1 - N)(1 + N²)(1 + N⁴) … (1 + N³²)`, as the body forms it by repeated squaring. -/
def inv64 (N : FVec Ideal S64x64 .f32) : FVec Ideal S64x64 .f32 :=
  let p0 := subf k0_pay14 N
  let n0 := subf (broadcast S64x64 (Scalar.ofBits .f32 0x00000000#32)) (subf p0 k0_pay14)
  let n1 := mm64 n0 n0
  let n2 := mm64 n1 n1
  let n3 := mm64 n2 n2
  let n4 := mm64 n3 n3
  let n5 := mm64 n4 n4
  grow (grow (grow (grow (grow p0 n1) n2) n3) n4) n5

/-- The upper half of the solution. -/
def upper (N : FVec Ideal S128x128 .f32) (R : FVec Ideal S128x256 .f32) : FVec Ideal S64x256 .f32 :=
  matmul dot_S64x64_S64x256_S64x256_1_0_0_1_n_n none
    (inv64 (extractStridedSlice S64x64 ![0, 0] N slices_S128x128_o0_0_S64x64))
    (extractStridedSlice S64x256 ![0, 0] R slices_S128x256_o0_0_S64x256) (constant S64x256 .f32 0x00000000#32)

/-- The lower half of the solution, the upper half substituted. -/
def lower (N : FVec Ideal S128x128 .f32) (R : FVec Ideal S128x256 .f32) (U1 : FVec Ideal S64x256 .f32) :
    FVec Ideal S64x256 .f32 :=
  matmul dot_S64x64_S64x256_S64x256_1_0_0_1_n_n none
    (inv64 (extractStridedSlice S64x64 ![64, 64] N slices_S128x128_o64_64_S64x64))
    (subf (extractStridedSlice S64x256 ![64, 0] R slices_S128x256_o64_0_S64x256)
      (matmul dot_S64x64_S64x256_S64x256_1_0_0_1_n_n none
        (extractStridedSlice S64x64 ![64, 0] N slices_S128x128_o64_0_S64x64) U1
        (constant S64x256 .f32 0x00000000#32)))
    (constant S64x256 .f32 0x00000000#32)

/-- The solution of the chunk's triangular system. -/
def solve (N : FVec Ideal S128x128 .f32) (R : FVec Ideal S128x256 .f32) : FVec Ideal S128x256 .f32 :=
  concatenate S128x256 0 [⟨S64x256, upper N R⟩, ⟨S64x256, lower N R (upper N R)⟩]
    concatenates_S64x256_S64x256_S128x256_d0

/-- The chunk's corrected values `u`. -/
def fix (kb vb : FVec Ideal S128x256 .bf16) (bg la : FVec Ideal S128x1 .f32) (S : FVec Ideal S256x256 .f32) :
    FVec Ideal S128x256 .f32 :=
  solve (low kb bg (logSum la)) (rhs kb vb bg (logSum la) S)

/-- The chunk's outputs before the output projection. -/
def outO (qb kb vb : FVec Ideal S128x256 .bf16) (bg la : FVec Ideal S128x1 .f32) (S : FVec Ideal S256x256 .f32) :
    FVec Ideal S128x256 .bf16 :=
  truncf .bf16
    (addf
      (mulf (broadcastTo S128x256 (exp (logSum la)) broadcasts_S128x1_S128x256)
        (matmul dot_S128x256_S256x256_S128x256_1_1_0_0_n_n none qb (truncf .bf16 S bitsLt_bf16_f32)
          (constant S128x256 .f32 0x00000000#32)))
      (matmul dot_S128x128_S128x256_S128x256_1_0_0_1_n_n none
        (truncf .bf16 (mulf (addf (ratio (logSum la)) k0_pay13)
          (matmul dot_S128x256_S128x256_S128x128_1_1_0_0_n_n none qb kb (constant S128x128 .f32 0x00000000#32)))
          bitsLt_bf16_f32)
        (truncf .bf16 (fix kb vb bg la S) bitsLt_bf16_f32) (constant S128x256 .f32 0x00000000#32)))
    bitsLt_bf16_f32

/-- The last running sum of the chunk. -/
def lastSum (Lc : FVec Ideal S128x1 .f32) : Ideal .f32 :=
  extractAt ![0, 0] (extractStridedSlice S1x1 ![127, 0] Lc slices_S128x1_o127_0_S1x1) inpos_S1x1_p0_0

/-- The state after the chunk. -/
def outS (kb vb : FVec Ideal S128x256 .bf16) (bg la : FVec Ideal S128x1 .f32) (S : FVec Ideal S256x256 .f32) :
    FVec Ideal S256x256 .f32 :=
  shapeCast S256x256
    (addf (mulf (broadcast S256x256 (Scalar.exp (lastSum (logSum la)))) S)
      (matmul dot_S128x256_S128x256_S256x256_0_0_1_1_n_n none
        (truncf .bf16 (mulf (fix kb vb bg la S)
          (broadcastTo S128x256 (exp (subf (broadcast S128x1 (lastSum (logSum la))) (logSum la)))
            broadcasts_S128x1_S128x256)) bitsLt_bf16_f32)
        kb (constant S256x256 .f32 0x00000000#32)))
    shapeCasts_S256x256_S256x256

end Cert.KernelIdeal.Chunk

end
-- ==== Proof.Opened.lean ====
/- What one grid point of the kernel leaves, as the chunk functions of `Chunk.lean` over the point's blocks:
   the eight carried states and the output block, from the states the point before left (zero at the first point). -/
module

public import proofs.«01_k».proof.Proof.Chunk
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Opened

open Cert.KernelIdeal Cert.KernelIdeal.Gen Chunk

/-- Batch `g`'s 128 rows lie within the 1024 rows of the point's blocks, 256 lanes wide. -/
theorem rows (g : Fin 8) : S1024x256.Slices ![128 * g.val, 0] S128x256 := by revert g; decide
/-- Batch `g`'s 128 rows of a column. -/
theorem rows1 (g : Fin 8) : S1024x1.Slices ![128 * g.val, 0] S128x1 := by revert g; decide

section
variable (X : FVec Ideal S8x128x256 .f32) (W : FVec Ideal S256x1280 .bf16) (b : FVec Ideal S1x1280 .f32) (g : Fin 8)

/-- Batch `g`'s queries. -/
def qB : FVec Ideal S128x256 .bf16 := extractStridedSlice S128x256 ![128 * g.val, 0] (k0_pay16 X W b) (rows g)
/-- Batch `g`'s keys. -/
def kB : FVec Ideal S128x256 .bf16 :=
  extractStridedSlice S128x256 ![128 * g.val, 0] (k0_pay19 (k0_pay17 X W b) (k0_pay18 X W b)) (rows g)
/-- Batch `g`'s values. -/
def vB : FVec Ideal S128x256 .bf16 := extractStridedSlice S128x256 ![128 * g.val, 0] (k0_pay20 (k0_pay15 X W b)) (rows g)
/-- Batch `g`'s write gates. -/
def bB : FVec Ideal S128x1 .f32 := extractStridedSlice S128x1 ![128 * g.val, 0] (k0_pay21 (k0_pay15 X W b)) (rows1 g)
/-- The logarithms of batch `g`'s decay gates. -/
def lB : FVec Ideal S128x1 .f32 := extractStridedSlice S128x1 ![128 * g.val, 0] (k0_pay22 (k0_pay15 X W b)) (rows1 g)
/-- Batch `g`'s state after the chunk. -/
def nextS (S : FVec Ideal S256x256 .f32) : FVec Ideal S256x256 .f32 :=
  outS (kB X W b g) (vB X W b g) (bB X W b g) (lB X W b g) S
/-- Batch `g`'s outputs before the projection. -/
def nextO (S : FVec Ideal S256x256 .f32) : FVec Ideal S128x256 .bf16 :=
  outO (qB X W b g) (kB X W b g) (vB X W b g) (bB X W b g) (lB X W b g) S
end

/-- The output block of a point: the eight batches' outputs, projected. -/
def outBlock (X : FVec Ideal S8x128x256 .f32) (W : FVec Ideal S256x1280 .bf16) (b : FVec Ideal S1x1280 .f32)
    (Wo : FVec Ideal S256x256 .bf16) (bo : FVec Ideal S1x256 .f32) (S : Fin 8 → FVec Ideal S256x256 .f32) :
    FVec Ideal S8x128x256 .f32 :=
  k0_pay2 (nextO X W b 0 (S 0)) (nextO X W b 1 (S 1)) (nextO X W b 2 (S 2)) (nextO X W b 3 (S 3))
    (nextO X W b 4 (S 4)) (nextO X W b 5 (S 5)) (nextO X W b 6 (S 6)) (nextO X W b 7 (S 7)) Wo bo

/-- What a point leaves: the output block and the eight states. -/
abbrev Left := Vec Ideal S8x128x256 .f32 × Vec Ideal S256x256 .f32 × Vec Ideal S256x256 .f32 × Vec Ideal S256x256 .f32 ×
  Vec Ideal S256x256 .f32 × Vec Ideal S256x256 .f32 × Vec Ideal S256x256 .f32 × Vec Ideal S256x256 .f32 × Vec Ideal S256x256 .f32

/-- The eight states among what a point leaves. -/
def states (p : Left) : Fin 8 → FVec Ideal S256x256 .f32 :=
  ![p.2.1, p.2.2.1, p.2.2.2.1, p.2.2.2.2.1, p.2.2.2.2.2.1, p.2.2.2.2.2.2.1, p.2.2.2.2.2.2.2.1, p.2.2.2.2.2.2.2.2]

/-- An output block and eight states as one tuple. -/
def pack (o : FVec Ideal S8x128x256 .f32) (S : Fin 8 → FVec Ideal S256x256 .f32) : Left :=
  (o, S 0, S 1, S 2, S 3, S 4, S 5, S 6, S 7)

theorem states_pack (o : FVec Ideal S8x128x256 .f32) (S : Fin 8 → FVec Ideal S256x256 .f32) : states (pack o S) = S := by
  funext g; fin_cases g <;> rfl

/-- The states the first point starts from. -/
def zeroS : FVec Ideal S256x256 .f32 :=
  shapeCast S256x256 (broadcast S256x256 (Scalar.ofBits .f32 0x00000000#32)) shapeCasts_S256x256_S256x256

variable (m : (ℓ : Loc nD τ sig) → Buf (Elt Ideal) ℓ)

/-- A point's step from the states `S`. -/
def step (c : Dev nD) (t : Fin cfg0.N) (S : Fin 8 → FVec Ideal S256x256 .f32) : Left :=
  pack (outBlock (iblk m c 0 t) (iblk m c 1 t) (iblk m c 2 t) (iblk m c 3 t) (iblk m c 4 t) S)
    (fun g => nextS (iblk m c 0 t) (iblk m c 1 t) (iblk m c 2 t) g (S g))

/-- The first point starts from zero states. -/
theorem outs_first (c : Dev nD) (t : Fin cfg0.N) (h : t.val % 16 = 0) :
    outsAt0 m c t.val t.isLt = step m c t (fun _ => zeroS) := by
  rw [outsAt0_A m c t h]
  dsimp only [step, pack]
  refine Prod.ext ?_ (Prod.ext ?_ (Prod.ext ?_ (Prod.ext ?_ (Prod.ext ?_ (Prod.ext ?_ (Prod.ext ?_ (Prod.ext ?_ ?_))))))) <;>
    (dsimp only; frame_out; rfl)

/-- Every other point starts from what the point before left. -/
theorem outs_later (c : Dev nD) (t : Fin cfg0.N) (h : ¬t.val % 16 = 0) :
    outsAt0 m c t.val t.isLt =
      step m c t (states (outsAt0 m c (t.val - 1) (Nat.lt_of_le_of_lt (Nat.sub_le _ _) t.isLt))) := by
  rw [outsAt0_B m c t h]
  dsimp only [step, pack]
  refine Prod.ext ?_ (Prod.ext ?_ (Prod.ext ?_ (Prod.ext ?_ (Prod.ext ?_ (Prod.ext ?_ (Prod.ext ?_ (Prod.ext ?_ ?_))))))) <;>
    (dsimp only; frame_out; simp only [read_unread_whole]; rfl)

end Cert.KernelIdeal.Opened

end
-- ==== Proof.Recurrence.lean ====
/- The mathematics of one chunk, over the real numbers alone: the gated delta rule's recurrence, its closed form
   over a chunk through the triangular system the chunk solves, the inverse of a unit lower triangular matrix as a
   product of repeated squares, and the solution of the system in two halves. -/
module

public import Mathlib.Data.Matrix.Mul
public import Mathlib.Analysis.SpecialFunctions.Log.Basic
public import Mathlib.Tactic.LinearCombination
public import Mathlib.Tactic.NoncommRing
public import Mathlib.Tactic.Ring
public import Mathlib.Tactic.Linarith

@[expose] public section

noncomputable section

open Finset

namespace Cert.Recurrence

/-- One token's update of the state: decay, then write the corrected value along the key. -/
def next (a b : ℝ) (k v : ℕ → ℝ) (T : ℕ → ℕ → ℝ) (i j : ℕ) : ℝ :=
  a * T i j + b * (v i - a * ∑ l ∈ range 256, T i l * k l) * k j

/-- The state after `t` tokens from `T0`. -/
def state (a b : ℕ → ℝ) (k v : ℕ → ℕ → ℝ) (T0 : ℕ → ℕ → ℝ) : ℕ → ℕ → ℕ → ℝ
  | 0 => T0
  | t + 1 => next (a t) (b t) (k t) (v t) (state a b k v T0 t)

theorem state_succ (a b : ℕ → ℝ) (k v : ℕ → ℕ → ℝ) (T0 : ℕ → ℕ → ℝ) (t : ℕ) :
    state a b k v T0 (t + 1) = next (a t) (b t) (k t) (v t) (state a b k v T0 t) := rfl

/-- The update as the reference writes it, `a S (1 - b k kᵀ) + b v kᵀ`, at an entry within the width. -/
theorem next_eq (a b : ℝ) (k v : ℕ → ℝ) (T : ℕ → ℕ → ℝ) (i j : ℕ) (hj : j < 256) :
    a * (∑ l ∈ range 256, T i l * ((if l = j then 1 else 0) - b * (k l * k j))) + b * (v i * k j) = next a b k v T i j := by
  have h : ∑ l ∈ range 256, T i l * ((if l = j then 1 else 0) - b * (k l * k j)) =
      T i j - b * (∑ l ∈ range 256, T i l * k l) * k j := by
    rw [mul_sum, sum_mul]
    rw [show T i j = ∑ l ∈ range 256, (if l = j then T i l else 0) by
      rw [sum_ite_eq' (range 256) j (fun l => T i l), if_pos (mem_range.2 hj)]]
    rw [← sum_sub_distrib]
    refine sum_congr rfl fun l _ => ?_
    split_ifs <;> ring
  rw [h, next]; ring

/-- The update reads the state's entries only within the width. -/
theorem next_congr (a b : ℝ) (k v : ℕ → ℝ) (T T' : ℕ → ℕ → ℝ) (i j : ℕ) (hj : j < 256)
    (h : ∀ l, l < 256 → T i l = T' i l) : next a b k v T i j = next a b k v T' i j := by
  rw [next, next, h j hj, sum_congr rfl fun l hl => by rw [h l (mem_range.1 hl)]]

/-- Running `n` tokens and then `r` more is running `n + r`. -/
theorem state_shift (a b : ℕ → ℝ) (k v : ℕ → ℕ → ℝ) (T0 : ℕ → ℕ → ℝ) (n r : ℕ) :
    state (fun t => a (n + t)) (fun t => b (n + t)) (fun t => k (n + t)) (fun t => v (n + t)) (state a b k v T0 n) r =
      state a b k v T0 (n + r) := by
  induction r with
  | zero => rfl
  | succ r ih => rw [state_succ, ih, ← Nat.add_assoc, state_succ]

/-- The running sum of the decays' logarithms over the first `r` tokens. -/
def run (la : ℕ → ℝ) (r : ℕ) : ℝ := ∑ s ∈ range r, la s

theorem run_succ (la : ℕ → ℝ) (r : ℕ) : run la (r + 1) = run la r + la r := sum_range_succ _ _

/-- The chunk's system, row by row: `U` corrects the values so that the state is a sum over tokens. -/
def Solves (n : ℕ) (la b : ℕ → ℝ) (k v : ℕ → ℕ → ℝ) (T0 U : ℕ → ℕ → ℝ) : Prop :=
  ∀ r, r < n → ∀ i, i < 256 →
    U r i + ∑ s ∈ range r, b r * (Real.exp (run la (r + 1) - run la (s + 1)) * ∑ l ∈ range 256, k r l * k s l) * U s i =
      b r * (v r i - Real.exp (run la (r + 1)) * ∑ l ∈ range 256, k r l * T0 i l)

/-- The state inside a chunk, in closed form. -/
theorem state_closed (n : ℕ) (la b : ℕ → ℝ) (k v : ℕ → ℕ → ℝ) (T0 U : ℕ → ℕ → ℝ) (hU : Solves n la b k v T0 U)
    (r : ℕ) (hr : r ≤ n) (i j : ℕ) (hi : i < 256) :
    state (fun t => Real.exp (la t)) b k v T0 r i j =
      Real.exp (run la r) * T0 i j + ∑ s ∈ range r, Real.exp (run la r - run la (s + 1)) * U s i * k s j := by
  induction r generalizing j with
  | zero => simp [state, run]
  | succ r ih =>
    have hin : ∀ j, state (fun t => Real.exp (la t)) b k v T0 r i j =
      Real.exp (run la r) * T0 i j + ∑ s ∈ range r, Real.exp (run la r - run la (s + 1)) * U s i * k s j :=
      fun j => ih (Nat.le_of_succ_le hr) j
    have hshift : ∀ x, Real.exp (la r) * Real.exp (run la r - x) = Real.exp (run la (r + 1) - x) := fun x => by
      rw [← Real.exp_add, run_succ]; congr 1; ring
    have hfirst : Real.exp (la r) * Real.exp (run la r) = Real.exp (run la (r + 1)) := by
      simpa using hshift 0
    have hdot : Real.exp (la r) * ∑ l ∈ range 256, state (fun t => Real.exp (la t)) b k v T0 r i l * k r l =
        Real.exp (run la (r + 1)) * (∑ l ∈ range 256, k r l * T0 i l) +
          ∑ s ∈ range r, Real.exp (run la (r + 1) - run la (s + 1)) * (∑ l ∈ range 256, k r l * k s l) * U s i := by
      have h1 : ∑ l ∈ range 256, state (fun t => Real.exp (la t)) b k v T0 r i l * k r l =
          Real.exp (run la r) * (∑ l ∈ range 256, k r l * T0 i l) +
            ∑ s ∈ range r, Real.exp (run la r - run la (s + 1)) * (∑ l ∈ range 256, k r l * k s l) * U s i := by
        simp only [hin, add_mul, sum_add_distrib, sum_mul, mul_sum]
        rw [sum_comm]
        congr 1
        · exact sum_congr rfl fun _ _ => by ring
        · exact sum_congr rfl fun _ _ => sum_congr rfl fun _ _ => by ring
      rw [h1, mul_add, ← mul_assoc, hfirst]
      congr 1
      rw [mul_sum]
      exact sum_congr rfl fun s _ => by rw [← mul_assoc, ← mul_assoc, hshift]
    have hu : b r * (v r i - Real.exp (la r) * ∑ l ∈ range 256, state (fun t => Real.exp (la t)) b k v T0 r i l * k r l) =
        U r i := by
      have h := hU r (Nat.lt_of_succ_le hr) i hi
      rw [hdot]
      have h2 : ∑ s ∈ range r, b r * (Real.exp (run la (r + 1) - run la (s + 1)) * ∑ l ∈ range 256, k r l * k s l) * U s i =
          b r * ∑ s ∈ range r, Real.exp (run la (r + 1) - run la (s + 1)) * (∑ l ∈ range 256, k r l * k s l) * U s i := by
        rw [mul_sum]; exact sum_congr rfl fun _ _ => by ring
      rw [h2] at h
      linear_combination h.symm
    rw [state_succ, next, hu, hin, sum_range_succ, sub_self, Real.exp_zero, mul_add, ← mul_assoc, hfirst, mul_sum, one_mul]
    rw [show (∑ s ∈ range r, Real.exp (la r) * (Real.exp (run la r - run la (s + 1)) * U s i * k s j)) =
      ∑ s ∈ range r, Real.exp (run la (r + 1) - run la (s + 1)) * U s i * k s j from
      sum_congr rfl fun s _ => by rw [← mul_assoc, ← mul_assoc, hshift]]
    ring

/-- A token's output inside a chunk, in closed form. -/
theorem out_closed (n : ℕ) (la b : ℕ → ℝ) (k v : ℕ → ℕ → ℝ) (T0 U : ℕ → ℕ → ℝ) (hU : Solves n la b k v T0 U)
    (r : ℕ) (hr : r < n) (i : ℕ) (hi : i < 256) (q : ℕ → ℝ) :
    ∑ j ∈ range 256, state (fun t => Real.exp (la t)) b k v T0 (r + 1) i j * q j =
      Real.exp (run la (r + 1)) * (∑ j ∈ range 256, q j * T0 i j) +
        ∑ s ∈ range (r + 1), Real.exp (run la (r + 1) - run la (s + 1)) * (∑ j ∈ range 256, q j * k s j) * U s i := by
  simp only [fun j => state_closed n la b k v T0 U hU (r + 1) hr i j hi, add_mul, sum_add_distrib, sum_mul, mul_sum]
  rw [sum_comm]
  congr 1
  · exact sum_congr rfl fun _ _ => by ring
  · exact sum_congr rfl fun _ _ => sum_congr rfl fun _ _ => by ring

/-- A sum over a whole chunk of terms that vanish from `r` on is the sum over the first `r`. -/
theorem sum_lower (n r : ℕ) (hr : r ≤ n) (f g : ℕ → ℝ) (hfg : ∀ s, s < r → f s = g s) (h0 : ∀ s, r ≤ s → f s = 0) :
    ∑ s ∈ range n, f s = ∑ s ∈ range r, g s := by
  obtain ⟨d, rfl⟩ := Nat.exists_eq_add_of_le hr
  rw [sum_range_add, sum_congr rfl fun s hs => hfg s (mem_range.1 hs)]
  simp [h0]

/-! ### The inverse by repeated squaring -/

/-- Powers of a strictly lower triangular matrix vanish on more and more diagonals. -/
theorem pow_lower (N : Matrix (Fin 64) (Fin 64) ℝ) (hN : ∀ i j : Fin 64, i ≤ j → N i j = 0) (e : ℕ) :
    ∀ i j : Fin 64, i.val < j.val + e → (N ^ e) i j = 0 := by
  induction e with
  | zero =>
    intro i j h
    rw [pow_zero, Matrix.one_apply_ne]
    rintro rfl
    exact absurd h (by omega)
  | succ e ih =>
    intro i j h
    rw [pow_succ, Matrix.mul_apply]
    refine sum_eq_zero fun l _ => ?_
    by_cases hl : i.val < l.val + e
    · rw [ih i l hl, zero_mul]
    · rw [hN l j (by rw [Fin.le_def]; omega), mul_zero]

/-- The product of `1 - N` with `1 +` the repeated squares of `N`. -/
def squares (N : Matrix (Fin 64) (Fin 64) ℝ) : Matrix (Fin 64) (Fin 64) ℝ :=
  let n1 := N * N
  let n2 := n1 * n1
  let n3 := n2 * n2
  let n4 := n3 * n3
  let n5 := n4 * n4
  (1 - N) * (1 + n1) * (1 + n2) * (1 + n3) * (1 + n4) * (1 + n5)

/-- That product inverts `1 + N` when `N` is strictly lower triangular. -/
theorem squares_inverts (N : Matrix (Fin 64) (Fin 64) ℝ) (hN : ∀ i j : Fin 64, i ≤ j → N i j = 0) :
    (1 + N) * squares N = 1 := by
  have h64 : N ^ 64 = 0 := by
    ext i j
    rw [pow_lower N hN 64 i j (by omega)]
    rfl
  have key : ∀ M P : Matrix (Fin 64) (Fin 64) ℝ, (1 + N) * P = 1 - M → (1 + N) * (P * (1 + M)) = 1 - M * M :=
    fun M P h => by rw [← mul_assoc, h]; noncomm_ring
  have h0 : (1 + N) * (1 - N) = 1 - N * N := by noncomm_ring
  have h := key _ _ (key _ _ (key _ _ (key _ _ (key _ _ h0))))
  rw [show N * N * (N * N) * (N * N * (N * N)) * (N * N * (N * N) * (N * N * (N * N))) *
      (N * N * (N * N) * (N * N * (N * N)) * (N * N * (N * N) * (N * N * (N * N)))) *
      (N * N * (N * N) * (N * N * (N * N)) * (N * N * (N * N) * (N * N * (N * N))) *
      (N * N * (N * N) * (N * N * (N * N)) * (N * N * (N * N) * (N * N * (N * N))))) = N ^ 64 from by
    simp only [← pow_two, ← pow_mul, Nat.reducePow, Nat.reduceMul], h64, sub_zero] at h
  exact h

/-! ### The system in two halves -/

/-- The 64 × 64 block of `f` at row `i0` and column `j0`. -/
def block (f : ℕ → ℕ → ℝ) (i0 j0 : ℕ) : Matrix (Fin 64) (Fin 64) ℝ := fun i j => f (i0 + i) (j0 + j)
/-- The 64 rows of `f` from row `i0`. -/
def band (f : ℕ → ℕ → ℝ) (i0 : ℕ) : Matrix (Fin 64) (Fin 256) ℝ := fun i j => f (i0 + i) j

/-- The upper half of the solution. -/
def top (n R : ℕ → ℕ → ℝ) : Matrix (Fin 64) (Fin 256) ℝ := squares (block n 0 0) * band R 0
/-- The lower half of the solution. -/
def bottom (n R : ℕ → ℕ → ℝ) : Matrix (Fin 64) (Fin 256) ℝ :=
  squares (block n 64 64) * (band R 64 - block n 64 0 * top n R)
/-- The solution, at token `r` and lane `i`. -/
def sol (n R : ℕ → ℕ → ℝ) (r i : ℕ) : ℝ :=
  if h : r < 64 ∧ i < 256 then top n R ⟨r, h.1⟩ ⟨i, h.2⟩
  else if h : r - 64 < 64 ∧ i < 256 then bottom n R ⟨r - 64, h.1⟩ ⟨i, h.2⟩ else 0

theorem sol_top (n R : ℕ → ℕ → ℝ) (r : Fin 64) (i : Fin 256) : sol n R r i = top n R r i :=
  dif_pos ⟨r.isLt, i.isLt⟩

theorem sol_bottom (n R : ℕ → ℕ → ℝ) (r : Fin 64) (i : Fin 256) : sol n R (64 + r) i = bottom n R r i := by
  rw [sol, dif_neg (by omega), dif_pos ⟨by omega, i.isLt⟩]
  simp

/-- The two halves together solve the system `(1 + n) U = R`. -/
theorem sol_solves (n R : ℕ → ℕ → ℝ) (h0 : ∀ r s, r ≤ s → n r s = 0) (r : ℕ) (hr : r < 128) (i : ℕ) (hi : i < 256) :
    sol n R r i + ∑ s ∈ range r, n r s * sol n R s i = R r i := by
  have hlow : ∀ o, ∀ i j : Fin 64, i ≤ j → block n o o i j = 0 := fun o i j h => h0 _ _ (by rw [Fin.le_def] at h; omega)
  have hT : (1 + block n 0 0) * top n R = band R 0 := by
    rw [top, ← Matrix.mul_assoc, squares_inverts _ (hlow 0), Matrix.one_mul]
  have hB : (1 + block n 64 64) * bottom n R = band R 64 - block n 64 0 * top n R := by
    rw [bottom, ← Matrix.mul_assoc, squares_inverts _ (hlow 64), Matrix.one_mul]
  have hsum : ∑ s ∈ range r, n r s * sol n R s i = ∑ s ∈ range 128, n r s * sol n R s i :=
    (sum_lower 128 r hr.le _ _ (fun _ _ => rfl) fun s hs => by rw [h0 r s hs, zero_mul]).symm
  have h1 : ∑ s ∈ range 64, n r s * sol n R s i = ∑ s : Fin 64, n r s * top n R s ⟨i, hi⟩ := by
    rw [Finset.sum_range]
    exact sum_congr rfl fun s _ => by rw [← sol_top n R s ⟨i, hi⟩]
  have h2 : ∑ s ∈ range 64, n r (64 + s) * sol n R (64 + s) i = ∑ s : Fin 64, n r (64 + s) * bottom n R s ⟨i, hi⟩ := by
    rw [Finset.sum_range]
    exact sum_congr rfl fun s _ => by rw [← sol_bottom n R s ⟨i, hi⟩]
  rw [hsum, show 128 = 64 + 64 from rfl, sum_range_add, h1, h2]
  by_cases hr64 : r < 64
  · have hz : ∑ s : Fin 64, n r (64 + s) * bottom n R s ⟨i, hi⟩ = 0 :=
      sum_eq_zero fun s _ => by rw [h0 r _ (by omega), zero_mul]
    have h := congrFun (congrFun hT ⟨r, hr64⟩) ⟨i, hi⟩
    rw [Matrix.add_mul, Matrix.one_mul, Matrix.add_apply, Matrix.mul_apply] at h
    simp only [block, band, zero_add] at h
    rw [hz, add_zero, ← h, ← sol_top n R ⟨r, hr64⟩ ⟨i, hi⟩]
  · have h := congrFun (congrFun hB ⟨r - 64, by omega⟩) ⟨i, hi⟩
    rw [Matrix.add_mul, Matrix.one_mul, Matrix.add_apply, Matrix.mul_apply, Matrix.sub_apply, Matrix.mul_apply,
      ← sol_bottom n R ⟨r - 64, by omega⟩ ⟨i, hi⟩] at h
    simp only [block, band, zero_add, show 64 + (r - 64) = r by omega] at h
    linear_combination h

end Cert.Recurrence

end
-- ==== Proof.ChunkValue.lean ====
/- The chunk functions at real inputs: every block's entries are real numbers, given by a function of the token and
   the lane, and so are the results' — the chunk's system is solved, and the state and the outputs are the
   recurrence's (`Recurrence.lean`). -/
module

public import proofs.«01_k».proof.Proof.Chunk
public import proofs.«01_k».proof.Proof.Recurrence
public import Idealize.ShloMosaic.Lib.Pointwise
public import Idealize.ShloMosaic.Lib.WordCmp

@[expose] public section

set_option maxRecDepth 16384

noncomputable section

open Idealize.ShloMosaic Idealize.ShloMosaic.WordCmp

namespace Cert.KernelIdeal.Chunk

open Cert.KernelIdeal Cert.KernelIdeal.Gen Cert.Recurrence

/-- The entries of a matrix are the reals `f i j`. -/
def Is {A B : ℕ} (X : (⟨2, ![A, B]⟩ : Shape).Idx → EReal) (f : ℕ → ℕ → ℝ) : Prop :=
  ∀ (i : Fin A) (j : Fin B), X (ix2 i j) = ((f i j : ℝ) : EReal)

/-- The entries of a matrix are those of a real matrix. -/
def IsM {A B : ℕ} (X : (⟨2, ![A, B]⟩ : Shape).Idx → EReal) (M : Matrix (Fin A) (Fin B) ℝ) : Prop :=
  ∀ (i : Fin A) (j : Fin B), X (ix2 i j) = ((M i j : ℝ) : EReal)

/-- A finite sum of reals, taken in the extended reals, is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same over the indices below `n`. -/
theorem sum_fin_coe (n : ℕ) (f : ℕ → ℝ) : ∑ i : Fin n, ((f i : ℝ) : EReal) = ((∑ i ∈ Finset.range n, f i : ℝ) : EReal) := by
  rw [sum_coe, Finset.sum_range]

theorem coe_ite (p : Prop) [Decidable p] : (if p then 1 else 0 : EReal) = ((if p then 1 else 0 : ℝ) : EReal) := by
  split_ifs <;> simp

/-- The kernel's mask is the bottom value. -/
theorem mask_eq : Named.named (F := Ideal) κ "mask" (φ := .f32) 0xF149F2CA#32 = (⊥ : EReal) := by
  show (κ "mask").getD _ = ⊥
  rfl

theorem word_one : (BitVec.setWidth 32 (BitVec.ofBool true)).toInt = 1 := by decide
theorem word_zero : (BitVec.setWidth 32 (BitVec.ofBool false)).toInt = 0 := by decide

/-- A truth value as a number. -/
theorem bool_value (b : Bool) : FloatOps.sitofp (F := Ideal) FTy.f32 (BitVec.setWidth 32 (BitVec.ofBool b)) =
    if b then (1 : EReal) else 0 := by
  show (((BitVec.setWidth 32 (BitVec.ofBool b)).toInt : ℝ) : EReal) = _
  cases b
  · rw [word_zero]; simp
  · rw [word_one]; simp

/-- The lower triangle of ones. -/
theorem tril_apply (i j : Fin 128) : k0_pay12 (F := Ideal) (ix2 i j) = if j.val ≤ i.val then 1 else 0 := by
  pointwise [k0_pay12]
  rw [cmpi_sge_ofNat (by omega) (by omega), bool_value]
  simp

/-- The identity of the chunk's length. -/
theorem eyeL_apply (i j : Fin 128) : k0_pay13 (F := Ideal) (ix2 i j) = if i.val = j.val then 1 else 0 := by
  pointwise [k0_pay13]
  rw [cmpi_eq_ofNat (by omega) (by omega), bool_value]
  simp

/-- The identity of half the chunk's length. -/
theorem eyeH_is : IsM (k0_pay14 (F := Ideal)) 1 := by
  intro i j
  pointwise [k0_pay14]
  rw [eyeL_apply, coe_ite, Matrix.one_apply]
  simp only [Fin.ext_iff]

section
variable {la Lc bg : FVec Ideal S128x1 .f32} {qb kb vb : FVec Ideal S128x256 .bf16} {S : FVec Ideal S256x256 .f32}
  {f l b q k v T : ℕ → ℕ → ℝ}

theorem logSum_is (h : Is la f) : Is (logSum la) (fun r _ => run (fun s => f s 0) (r + 1)) := by
  intro i j
  pointwise [logSum]
  simp only [tril_apply, h _ _, coe_ite, ← EReal.coe_mul, Fin.val_eq_zero]
  rw [sum_fin_coe 128 (fun s => (if s ≤ i.val then 1 else 0) * f s 0), run,
    sum_lower 128 (i.val + 1) i.isLt _ (fun s => f s 0) (fun s hs => by rw [if_pos (by omega), one_mul])
      (fun s hs => by rw [if_neg (by omega), zero_mul])]

/-- The decay ratio, zero on and above the diagonal. -/
def rat (l : ℕ → ℕ → ℝ) (r s : ℕ) : ℝ := if s < r then Real.exp (l r 0 - l s 0) else 0

theorem ratio_is (h : Is Lc l) : Is (ratio Lc) (rat l) := by
  intro i j
  pointwise [ratio]
  rw [cmpi_sgt_ofNat (by omega) (by omega), mask_eq, h, h, rat]
  by_cases hij : j.val < i.val
  · rw [if_pos hij, decide_eq_true hij]
    show Ideal.exp (_ - _) = _
    rw [← EReal.coe_sub, Ideal.exp_coe]; rfl
  · rw [if_neg hij, decide_eq_false hij]
    show Ideal.exp ⊥ = _
    simp

theorem rhs_is (hk : Is kb k) (hv : Is vb v) (hb : Is bg b) (hl : Is Lc l) (hT : Is S T) :
    Is (rhs kb vb bg Lc S)
      (fun r i => b r 0 * (v r i - Real.exp (l r 0) * ∑ x ∈ Finset.range 256, k r x * T i x)) := by
  intro i j
  pointwise [rhs]
  simp only [hk _ _, hv _ _, hb _ _, hl _ _, hT _ _, Ideal.exp_coe, ← EReal.coe_mul]
  rw [sum_fin_coe 256 (fun x => k i x * T j x)]
  simp only [← EReal.coe_mul, ← EReal.coe_sub]
  rfl

theorem low_is (hk : Is kb k) (hb : Is bg b) (hl : Is Lc l) :
    Is (low kb bg Lc) (fun r s => b r 0 * (rat l r s * ∑ x ∈ Finset.range 256, k r x * k s x)) := by
  intro i j
  pointwise [low]
  simp only [hk _ _, hb _ _, ratio_is hl _ _, ← EReal.coe_mul]
  rw [sum_fin_coe 256 (fun x => k i x * k j x)]
  simp only [← EReal.coe_mul]
  rfl
end

section
variable {N P X Y : FVec Ideal S64x64 .f32} {n p x y : Matrix (Fin 64) (Fin 64) ℝ}

theorem mm64_is (hx : IsM X x) (hy : IsM Y y) : IsM (mm64 X Y) (x * y) := by
  intro i j
  pointwise [mm64]
  simp only [hx _ _, hy _ _, ← EReal.coe_mul, sum_coe, Matrix.mul_apply]

theorem add_is (hx : IsM X x) (hy : IsM Y y) : IsM (addf X Y : FVec Ideal S64x64 .f32) (x + y) := by
  intro i j
  pointwise []
  rw [hx, hy, ← EReal.coe_add]; rfl

theorem sub_is (hx : IsM X x) (hy : IsM Y y) : IsM (subf X Y : FVec Ideal S64x64 .f32) (x - y) := by
  intro i j
  pointwise []
  rw [hx, hy, ← EReal.coe_sub]; rfl

theorem grow_is (hp : IsM P p) (hn : IsM N n) : IsM (grow P N) (p * (1 + n)) := mm64_is hp (add_is eyeH_is hn)

theorem zero_is : IsM (broadcast S64x64 (Scalar.ofBits .f32 0x00000000#32) : FVec Ideal S64x64 .f32) 0 := by
  intro i j
  pointwise []
  simp

theorem inv64_is (hn : IsM N n) : IsM (inv64 N) (squares n) := by
  have h0 : IsM (subf (broadcast S64x64 (Scalar.ofBits .f32 0x00000000#32)) (subf (subf k0_pay14 N) k0_pay14)) n := by
    have h := sub_is zero_is (sub_is (sub_is eyeH_is hn) eyeH_is)
    rwa [show (0 : Matrix (Fin 64) (Fin 64) ℝ) - (1 - n - 1) = n by abel] at h
  have h1 := mm64_is h0 h0
  have h2 := mm64_is h1 h1
  have h3 := mm64_is h2 h2
  have h4 := mm64_is h3 h3
  have h5 := mm64_is h4 h4
  exact grow_is (grow_is (grow_is (grow_is (grow_is (sub_is eyeH_is hn) h1) h2) h3) h4) h5
end

section
variable {N : FVec Ideal S128x128 .f32} {R : FVec Ideal S128x256 .f32} {n ρ : ℕ → ℕ → ℝ}

theorem upper_is (hn : Is N n) (hR : Is R ρ) : IsM (upper N R) (top n ρ) := by
  have hb : IsM (extractStridedSlice S64x64 ![0, 0] N slices_S128x128_o0_0_S64x64) (block n 0 0) := by
    intro i j
    pointwise []
    exact (hn _ _).trans (congrArg _ (by simp only [block, zero_add]))
  intro i j
  pointwise [upper]
  simp only [inv64_is hb _ _, hR _ _, ← EReal.coe_mul, sum_coe, top, Matrix.mul_apply, band, zero_add]

theorem lower_is (hn : Is N n) (hR : Is R ρ) : IsM (lower N R (upper N R)) (bottom n ρ) := by
  have hb : IsM (extractStridedSlice S64x64 ![64, 64] N slices_S128x128_o64_64_S64x64) (block n 64 64) := by
    intro i j
    pointwise []
    exact (hn _ _).trans rfl
  intro i j
  pointwise [lower]
  simp only [inv64_is hb _ _, hR _ _, hn _ _, upper_is hn hR _ _, ← EReal.coe_mul, ← EReal.coe_sub, sum_coe, bottom, Matrix.mul_apply,
    Matrix.sub_apply, band, block, zero_add]

theorem solve_is (hn : Is N n) (hR : Is R ρ) : Is (solve N R) (sol n ρ) := by
  intro i j
  pointwise [solve]
  split_ifs with h
  · rw [upper_is hn hR, ← sol_top]
  · rw [lower_is hn hR, ← sol_bottom]
    simp only [show 64 + (i.val - 64) = i.val by omega]
  · exact absurd rfl ‹_›
end

section
variable {la bg : FVec Ideal S128x1 .f32} {qb kb vb : FVec Ideal S128x256 .bf16} {S : FVec Ideal S256x256 .f32}
  {f b q k v T : ℕ → ℕ → ℝ}

/-- The system's strictly lower part, as a function of the chunk's real inputs. -/
def lowR (k b f : ℕ → ℕ → ℝ) (r s : ℕ) : ℝ :=
  b r 0 * (rat (fun r _ => run (fun s => f s 0) (r + 1)) r s * ∑ x ∈ Finset.range 256, k r x * k s x)
/-- Its right-hand side. -/
def rhsR (k v b f T : ℕ → ℕ → ℝ) (r i : ℕ) : ℝ :=
  b r 0 * (v r i - Real.exp (run (fun s => f s 0) (r + 1)) * ∑ x ∈ Finset.range 256, k r x * T i x)
/-- Its solution. -/
def fixR (k v b f T : ℕ → ℕ → ℝ) : ℕ → ℕ → ℝ := sol (lowR k b f) (rhsR k v b f T)

theorem fix_is (hk : Is kb k) (hv : Is vb v) (hb : Is bg b) (hf : Is la f) (hT : Is S T) :
    Is (fix kb vb bg la S) (fixR k v b f T) :=
  solve_is (low_is hk hb (logSum_is hf)) (rhs_is hk hv hb (logSum_is hf) hT)

/-- That solution solves the recurrence's system. -/
theorem fixR_solves (k v b f T : ℕ → ℕ → ℝ) :
    Solves 128 (fun s => f s 0) (fun s => b s 0) k v T (fixR k v b f T) := by
  intro r hr i hi
  refine Eq.trans ?_ (sol_solves (lowR k b f) (rhsR k v b f T)
    (fun r s hrs => by rw [lowR, rat, if_neg (by omega), zero_mul, mul_zero]) r hr i hi)
  refine congrArg₂ (· + ·) rfl (Finset.sum_congr rfl fun s hs => ?_)
  rw [lowR, rat, if_pos (Finset.mem_range.1 hs)]
  rfl

/-- The chunk's outputs are the states' products with the queries. -/
theorem outO_is (hq : Is qb q) (hk : Is kb k) (hv : Is vb v) (hb : Is bg b) (hf : Is la f) (hT : Is S T) :
    Is (outO qb kb vb bg la S) (fun r i => ∑ j ∈ Finset.range 256,
      state (fun t => Real.exp (f t 0)) (fun t => b t 0) k v T (r + 1) i j * q r j) := by
  intro i j
  refine Eq.trans ?_ (congrArg _ (out_closed 128 (fun s => f s 0) (fun s => b s 0) k v T _ (fixR_solves k v b f T) i i.isLt j j.isLt
    (q i)).symm)
  pointwise [outO]
  simp only [hq _ _, hk _ _, hT _ _, logSum_is hf _ _, ratio_is (logSum_is hf) _ _, eyeL_apply, coe_ite, fix_is hk hv hb hf hT _ _,
    Ideal.exp_coe, ← EReal.coe_mul, ← EReal.coe_add]
  have h1 : ∀ x : Fin 128, ∑ y : Fin 256, ((q i y * k x y : ℝ) : EReal) = ((∑ y ∈ Finset.range 256, q i y * k x y : ℝ) : EReal) :=
    fun x => sum_fin_coe 256 (fun y => q i y * k x y)
  simp only [h1, ← EReal.coe_mul]
  rw [sum_fin_coe 256 (fun y => q i y * T j y),
    sum_fin_coe 128 (fun s => (rat (fun r _ => run (fun s => f s 0) (r + 1)) i s + if i.val = s then 1 else 0) *
      (∑ y ∈ Finset.range 256, q i y * k s y) * fixR k v b f T s j), ← EReal.coe_mul, ← EReal.coe_add]
  rw [sum_lower 128 (i.val + 1) i.isLt _ (fun s => Real.exp (run (fun s => f s 0) (i.val + 1) - run (fun s => f s 0) (s + 1)) *
    (∑ y ∈ Finset.range 256, q i y * k s y) * fixR k v b f T s j)]
  · intro s hs
    rw [rat]
    rcases Nat.lt_succ_iff_lt_or_eq.1 hs with h | rfl
    · rw [if_pos h, if_neg (by omega), add_zero]
    · rw [if_neg (lt_irrefl _), if_pos rfl, sub_self, Real.exp_zero, zero_add]
  · intro s hs
    rw [rat, if_neg (by omega), if_neg (by omega), zero_add, zero_mul, zero_mul]

/-- The chunk's state is the recurrence's after 128 tokens. -/
theorem outS_is (hk : Is kb k) (hv : Is vb v) (hb : Is bg b) (hf : Is la f) (hT : Is S T) :
    Is (outS kb vb bg la S) (state (fun t => Real.exp (f t 0)) (fun t => b t 0) k v T 128) := by
  intro i j
  rw [state_closed 128 (fun s => f s 0) (fun s => b s 0) k v T _ (fixR_solves k v b f T) 128 le_rfl i j i.isLt]
  pointwise [outS, lastSum]
  show Ideal.exp (logSum la (ix2 127 0)) * _ + _ = _
  simp only [hk _ _, hT _ _, logSum_is hf _ _, fix_is hk hv hb hf hT _ _, Ideal.exp_coe, ← EReal.coe_mul, ← EReal.coe_sub,
    show (127 : Fin 128).val = 127 from rfl]
  rw [sum_fin_coe 128 (fun s => fixR k v b f T s i * Real.exp (run (fun s => f s 0) (127 + 1) - run (fun s => f s 0) (s + 1)) * k s j),
    ← EReal.coe_add]
  refine congrArg _ (congrArg₂ (· + ·) rfl (Finset.sum_congr rfl fun s _ => ?_))
  rw [mul_comm (fixR k v b f T s i)]
end

end Cert.KernelIdeal.Chunk

end
-- ==== Proof.Reads.lean ====
/- What the kernel's blocks hold at a grid point, read off the arguments. -/
module

public import proofs.«01_k».proof.Proof.Opened
public import proofs.«01_k».proof.Proof.ChunkValue
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.KernelIdeal.Reads

open Cert.KernelIdeal Cert.KernelIdeal.Gen Chunk Opened

variable (m : (ℓ : Loc nD τ sig) → Buf (Elt Ideal) ℓ)

theorem idx : ∀ t : Fin cfg0.N, win0_0.index t = ![0, t.val, 0] ∧ win0_1.index t = ![0, 0] ∧ win0_2.index t = ![0, 0]
    ∧ win0_3.index t = ![0, 0] ∧ win0_4.index t = ![0, 0] :=
  (by decide +kernel : ∀ t : Fin grid0.N, _)

theorem x_read (c : Dev nD) (t : Fin cfg0.N) (g : Fin 8) (r : Fin 128) (d : Fin 256) (h : 128 * t.val + r.val < 2048) :
    iblk m c 0 t (ix3 g r d) = m ((c : Thread nD τ).loc main_arg0) (ix3 g ⟨128 * t.val + r.val, h⟩ d) := by
  blk_ext [iblk, V, idx t]

/-- The five projections' weights, transposed and laid side by side. -/
def wAll (c : Dev nD) : FVec Ideal S256x1280 .bf16 :=
  truncf .bf16 (concatenate S256x1280 1
    [⟨S256x256, (transpose S256x256 [1, 0] (m ((c : Thread nD τ).loc main_arg1) : FVec Ideal S256x256 .f32) transposes_S256x256_S256x256_1_0 : FVec Ideal S256x256 .f32)⟩,
     ⟨S256x256, (transpose S256x256 [1, 0] (m ((c : Thread nD τ).loc main_arg3) : FVec Ideal S256x256 .f32) transposes_S256x256_S256x256_1_0 : FVec Ideal S256x256 .f32)⟩,
     ⟨S256x256, (transpose S256x256 [1, 0] (m ((c : Thread nD τ).loc main_arg5) : FVec Ideal S256x256 .f32) transposes_S256x256_S256x256_1_0 : FVec Ideal S256x256 .f32)⟩,
     ⟨S256x256, (transpose S256x256 [1, 0] (m ((c : Thread nD τ).loc main_arg7) : FVec Ideal S256x256 .f32) transposes_S256x256_S256x256_1_0 : FVec Ideal S256x256 .f32)⟩,
     ⟨S256x256, (transpose S256x256 [1, 0] (m ((c : Thread nD τ).loc main_arg9) : FVec Ideal S256x256 .f32) transposes_S256x256_S256x256_1_0 : FVec Ideal S256x256 .f32)⟩]
    concatenates_S256x256_S256x256_S256x256_S256x256_S256x256_S256x1280_d1 : FVec Ideal S256x1280 .f32) bitsLt_bf16_f32

/-- The five projections' biases, laid side by side. -/
def bAll (c : Dev nD) : FVec Ideal S1x1280 .f32 :=
  shapeCast S1x1280 (concatenate S1280 0
    [⟨S256, (m ((c : Thread nD τ).loc main_arg2) : FVec Ideal S256 .f32)⟩,
     ⟨S256, (m ((c : Thread nD τ).loc main_arg4) : FVec Ideal S256 .f32)⟩,
     ⟨S256, (m ((c : Thread nD τ).loc main_arg6) : FVec Ideal S256 .f32)⟩,
     ⟨S256, (m ((c : Thread nD τ).loc main_arg8) : FVec Ideal S256 .f32)⟩,
     ⟨S256, (m ((c : Thread nD τ).loc main_arg10) : FVec Ideal S256 .f32)⟩]
    concatenates_S256_S256_S256_S256_S256_S1280_d0 : FVec Ideal S1280 .f32) shapeCasts_S1280_S1x1280

set_option maxHeartbeats 1000000 in
theorem entry_w (c : Dev nD) : V m c main_call0_v6 = wAll m c := by
  unfold V
  simp only [StableHlo.after_cons, StableHlo.after_nil]
  rfl

theorem entry_b (c : Dev nD) : V m c main_call0_v8 = bAll m c := by entry_read; rfl
theorem entry_wo (c : Dev nD) : V m c main_call0_v10 = (truncf .bf16 (transpose S256x256 [1, 0] (m ((c : Thread nD τ).loc main_arg11) : FVec Ideal S256x256 .f32) transposes_S256x256_S256x256_1_0 : FVec Ideal S256x256 .f32) bitsLt_bf16_f32 : FVec Ideal S256x256 .bf16) := by
  entry_read; rfl
theorem entry_bo (c : Dev nD) : V m c main_call0_v11 = (shapeCast S1x256 (m ((c : Thread nD τ).loc main_arg12) : FVec Ideal S256 .f32) shapeCasts_S256_S1x256 : FVec Ideal S1x256 .f32) := by entry_read; rfl

theorem wo_read (c : Dev nD) (t : Fin cfg0.N) (d h : Fin 256) :
    iblk m c 3 t (ix2 d h) = m ((c : Thread nD τ).loc main_arg11) (ix2 h d) := by
  unfold iblk
  blk_simp [idx t]
  rw [entry_wo]
  have e : (win0_3.blk t).view.emb (ix2 d h) = ix2 d h := by blk_ext [idx t]
  rw [e]
  pointwise []
theorem bo_read (c : Dev nD) (t : Fin cfg0.N) (z : Fin 1) (h : Fin 256) :
    iblk m c 4 t (ix2 z h) = m ((c : Thread nD τ).loc main_arg12) (ix1 h) := by
  unfold iblk
  blk_simp [idx t]
  rw [entry_bo]
  have e : (win0_4.blk t).view.emb (ix2 z h) = ix2 z h := by blk_ext [idx t]
  rw [e]
  pointwise []
theorem w_read (c : Dev nD) (t : Fin cfg0.N) : iblk m c 1 t = wAll m c := by
  funext j
  unfold iblk
  blk_simp [idx t]
  rw [entry_w]
  have e : (win0_1.blk t).view.emb j = j := by blk_ext [idx t]
  rw [e]
theorem b_read (c : Dev nD) (t : Fin cfg0.N) : iblk m c 2 t = bAll m c := by
  funext j
  unfold iblk
  blk_simp [idx t]
  rw [entry_b]
  have e : (win0_2.blk t).view.emb j = j := by blk_ext [idx t]
  rw [e]

/-! The projections' own columns. -/

theorem w0_apply (c : Dev nD) (d h : Fin 256) :
    wAll m c (ix2 d ⟨h.val, by omega⟩) = m ((c : Thread nD τ).loc main_arg1) (ix2 h d) := by
  pointwise [wAll]

theorem b0_apply (c : Dev nD) (h : Fin 256) :
    bAll m c (ix2 0 ⟨h.val, by omega⟩) = m ((c : Thread nD τ).loc main_arg2) (ix1 h) := by
  pointwise [bAll]

theorem w1_apply (c : Dev nD) (d h : Fin 256) :
    wAll m c (ix2 d ⟨256 + h.val, by omega⟩) = m ((c : Thread nD τ).loc main_arg3) (ix2 h d) := by
  pointwise [wAll]

theorem b1_apply (c : Dev nD) (h : Fin 256) :
    bAll m c (ix2 0 ⟨256 + h.val, by omega⟩) = m ((c : Thread nD τ).loc main_arg4) (ix1 h) := by
  pointwise [bAll]

theorem w2_apply (c : Dev nD) (d h : Fin 256) :
    wAll m c (ix2 d ⟨512 + h.val, by omega⟩) = m ((c : Thread nD τ).loc main_arg5) (ix2 h d) := by
  pointwise [wAll]
  have e : 512 + h.val - 256 - 256 = h.val := by omega
  rw [dif_neg (by omega)]
  rw [dif_neg (by omega)]
  rw [dif_pos (by omega)]
  simp only [e]

theorem b2_apply (c : Dev nD) (h : Fin 256) :
    bAll m c (ix2 0 ⟨512 + h.val, by omega⟩) = m ((c : Thread nD τ).loc main_arg6) (ix1 h) := by
  pointwise [bAll]
  have e : 512 + h.val - 256 - 256 = h.val := by omega
  rw [dif_neg (by omega)]
  rw [dif_neg (by omega)]
  rw [dif_pos (by omega)]
  simp only [e]

theorem w3_apply (c : Dev nD) (d h : Fin 256) :
    wAll m c (ix2 d ⟨768 + h.val, by omega⟩) = m ((c : Thread nD τ).loc main_arg7) (ix2 h d) := by
  pointwise [wAll]
  have e : 768 + h.val - 256 - 256 - 256 = h.val := by omega
  rw [dif_neg (by omega)]
  rw [dif_neg (by omega)]
  rw [dif_neg (by omega)]
  rw [dif_pos (by omega)]
  simp only [e]

theorem b3_apply (c : Dev nD) (h : Fin 256) :
    bAll m c (ix2 0 ⟨768 + h.val, by omega⟩) = m ((c : Thread nD τ).loc main_arg8) (ix1 h) := by
  pointwise [bAll]
  have e : 768 + h.val - 256 - 256 - 256 = h.val := by omega
  rw [dif_neg (by omega)]
  rw [dif_neg (by omega)]
  rw [dif_neg (by omega)]
  rw [dif_pos (by omega)]
  simp only [e]

theorem w4_apply (c : Dev nD) (d h : Fin 256) :
    wAll m c (ix2 d ⟨1024 + h.val, by omega⟩) = m ((c : Thread nD τ).loc main_arg9) (ix2 h d) := by
  pointwise [wAll]
  have e : 1024 + h.val - 256 - 256 - 256 - 256 = h.val := by omega
  rw [dif_neg (by omega)]
  rw [dif_neg (by omega)]
  rw [dif_neg (by omega)]
  rw [dif_neg (by omega)]
  simp only [e]

theorem b4_apply (c : Dev nD) (h : Fin 256) :
    bAll m c (ix2 0 ⟨1024 + h.val, by omega⟩) = m ((c : Thread nD τ).loc main_arg10) (ix1 h) := by
  pointwise [bAll]
  have e : 1024 + h.val - 256 - 256 - 256 - 256 = h.val := by omega
  rw [dif_neg (by omega)]
  rw [dif_neg (by omega)]
  rw [dif_neg (by omega)]
  rw [dif_neg (by omega)]
  simp only [e]

/-- A chunk's projections, row `128 g + r`. -/
theorem proj_apply (X : Vec Ideal S8x128x256 .f32) (W : Vec Ideal S256x1280 .bf16) (b : Vec Ideal S1x1280 .f32)
    (g : Fin 8) (r : Fin 128) (o : Fin 1280) (h : 128 * g.val + r.val < 1024) :
    k0_pay15 X W b (ix2 ⟨128 * g.val + r.val, h⟩ o) = ∑ d : Fin 256, X (ix3 g r d) * W (ix2 d o) + b (ix2 0 o) := by
  have e1 : (128 * g.val + r.val) / 128 = g.val := by omega
  have e2 : (128 * g.val + r.val) % 128 = r.val := by omega
  pointwise [k0_pay15]

end Cert.KernelIdeal.Reads

end
-- ==== Proof.RefEntry.lean ====
/- What the reference's loop finds when it starts: the queries, keys, values and gates of every token, as the host
   operations before the loop compute them from the arguments. -/
module

public import proofs.«01_k».proof.Proof.Gen.ReferenceIdeal.Run
public import Idealize.ShloMosaic.Lib.Pointwise
public import Idealize.ShloMosaic.Lib.Claim
public import Idealize.ShloMosaic.Lib.WordCmp

@[expose] public section

set_option maxRecDepth 16384
set_option maxHeartbeats 1000000

noncomputable section

open Idealize.ShloMosaic Idealize.ShloMosaic.TcCoe Idealize.SL.Sem Idealize.ShloMosaic.StableHlo

namespace Cert.ReferenceIdeal.Entry

open Cert.ReferenceIdeal Cert.ReferenceIdeal.Gen Cert.ReferenceIdeal.Value

/-- A projection: `x Wᵀ + b`. -/
def proj (x : FVec Ideal S8x2048x256 .f32) (W : FVec Ideal S256x256 .f32) (b : FVec Ideal S256 .f32) :
    FVec Ideal S8x2048x256 .f32 :=
  addf (Host.dotGeneral dot_S8x2048x256_S256x256_S8x2048x256_2_0_01_1_n_n none x
      (transpose S256x256 [1, 0] W transposes_S256x256_S256x256_1_0))
    (broadcastInDim S8x2048x256 ![0, 1, 2] bcast_S1x1x256_S8x2048x256_0_1_2
      (broadcastInDim S1x1x256 ![2] bcast_S256_S1x1x256_2 b))

/-- The logistic function, written out. -/
def sigm (z : FVec Ideal S8x2048x256 .f32) : FVec Ideal S8x2048x256 .f32 :=
  Host.divf (broadcastInDim S8x2048x256 ![] bcast_S_S8x2048x256 (constant S_ .f32 0x3F800000#32))
    (addf (broadcastInDim S8x2048x256 ![] bcast_S_S8x2048x256 (constant S_ .f32 0x3F800000#32)) (Host.exp (Host.negf z)))

/-- `z` times its logistic. -/
def silu (z : FVec Ideal S8x2048x256 .f32) : FVec Ideal S8x2048x256 .f32 := mulf z (sigm z)

/-- Each token's row divided by its norm. -/
def unit (t : FVec Ideal S8x2048x256 .f32) : FVec Ideal S8x2048x256 .f32 :=
  Host.divf t (broadcastInDim S8x2048x256 ![0, 1, 2] bcast_S8x2048x1_S8x2048x256_0_1_2
    (addf (Host.sqrt (broadcastInDim S8x2048x1 ![0, 1] bcast_S8x2048_S8x2048x1_0_1
        (Host.reduceAdd (mulf t t) (constant S_ .f32 0x00000000#32) reducesTo_S8x2048x256_S8x2048_d2 h_S_)))
      (broadcastInDim S8x2048x1 ![] bcast_S_S8x2048x1 (constant S_ .f32 0x358637BD#32))))

/-- A gate: the mean of the logistics over the width. -/
def gate (z : FVec Ideal S8x2048x256 .f32) : FVec Ideal S8x2048 .f32 :=
  Host.divf (Host.reduceAdd (sigm z) (constant S_ .f32 0x00000000#32) reducesTo_S8x2048x256_S8x2048_d2 h_S_)
    (broadcastInDim S8x2048 ![] bcast_S_S8x2048 (constant S_ .f32 0x43800000#32))

variable (m : (ℓ : Loc nD τ sig) → Buf (Elt Ideal) ℓ)

/-- An argument's contents. -/
abbrev arg (c : Dev nD) (b : Ref sig .tc) : Buf (Elt Ideal) ((c : Thread nD τ).loc b) := m ((c : Thread nD τ).loc b)

theorem entry_q (c : Dev nD) : entryContents preI m c (Proc.devRef .tc main_v69_0) =
    (transpose S2048x8x256 [1, 0, 2] (unit (silu (proj (arg m c main_arg0) (arg m c main_arg1) (arg m c main_arg2))))
      transposes_S8x2048x256_S2048x8x256_1_0_2 : FVec Ideal S2048x8x256 .f32) := by
  simp only [entryContents, afterL_cons, afterL_nil]
  after_reads_simp
  rfl

theorem entry_k (c : Dev nD) : entryContents preI m c (Proc.devRef .tc main_v69_1) =
    (transpose S2048x8x256 [1, 0, 2] (unit (silu (proj (arg m c main_arg0) (arg m c main_arg3) (arg m c main_arg4))))
      transposes_S8x2048x256_S2048x8x256_1_0_2 : FVec Ideal S2048x8x256 .f32) := by
  simp only [entryContents, afterL_cons, afterL_nil]
  after_reads_simp
  rfl

theorem entry_v (c : Dev nD) : entryContents preI m c (Proc.devRef .tc main_v69_2) =
    (transpose S2048x8x256 [1, 0, 2] (silu (proj (arg m c main_arg0) (arg m c main_arg5) (arg m c main_arg6)))
      transposes_S8x2048x256_S2048x8x256_1_0_2 : FVec Ideal S2048x8x256 .f32) := by
  simp only [entryContents, afterL_cons, afterL_nil]
  after_reads_simp
  rfl

theorem entry_a (c : Dev nD) : entryContents preI m c (Proc.devRef .tc main_v69_3) =
    (transpose S2048x8 [1, 0] (gate (proj (arg m c main_arg0) (arg m c main_arg7) (arg m c main_arg8)))
      transposes_S8x2048_S2048x8_1_0 : FVec Ideal S2048x8 .f32) := by
  simp only [entryContents, afterL_cons, afterL_nil]
  after_reads_simp
  rfl

theorem entry_b (c : Dev nD) : entryContents preI m c (Proc.devRef .tc main_v69_4) =
    (transpose S2048x8 [1, 0] (gate (proj (arg m c main_arg0) (arg m c main_arg9) (arg m c main_arg10)))
      transposes_S8x2048_S2048x8_1_0 : FVec Ideal S2048x8 .f32) := by
  simp only [entryContents, afterL_cons, afterL_nil]
  after_reads_simp
  rfl

theorem entry_eye (c : Dev nD) : entryContents preI m c (Proc.devRef .tc main_v69_5) =
    (uitofp .f32 (cmpi .eq (addi (iotaInDim S256x256 32 0) (broadcastInDim S256x256 ![] bcast_S_S256x256 (constantI S_ 32 0#32)))
      (iotaInDim S256x256 32 1)) : FVec Ideal S256x256 .f32) := by
  simp only [entryContents, afterL_cons, afterL_nil]
  after_reads_simp
  rfl

theorem entry_S (c : Dev nD) : entryContents preI m c (Proc.devRef .tc main_v69_7) =
    (broadcastInDim S8x256x256 ![] bcast_S_S8x256x256 (constant S_ .f32 0x00000000#32) : FVec Ideal S8x256x256 .f32) := by
  simp only [entryContents, afterL_cons, afterL_nil]
  after_reads_simp
  rfl

/-! ### At an index -/

theorem proj_apply (x : FVec Ideal S8x2048x256 .f32) (W : FVec Ideal S256x256 .f32) (b : FVec Ideal S256 .f32)
    (g : Fin 8) (t : Fin 2048) (h : Fin 256) :
    proj x W b (ix3 g t h) = ∑ d : Fin 256, x (ix3 g t d) * W (ix2 h d) + b (ix1 h) := by
  pointwise [proj]

theorem sigm_apply (z : FVec Ideal S8x2048x256 .f32) (g : Fin 8) (t : Fin 2048) (h : Fin 256) :
    sigm z (ix3 g t h) = Ideal.div 1 (1 + Ideal.exp (-z (ix3 g t h))) := by
  pointwise [sigm]

theorem silu_apply (z : FVec Ideal S8x2048x256 .f32) (g : Fin 8) (t : Fin 2048) (h : Fin 256) :
    silu z (ix3 g t h) = z (ix3 g t h) * sigm z (ix3 g t h) := by
  pointwise [silu]

theorem unit_apply (z : FVec Ideal S8x2048x256 .f32) (g : Fin 8) (t : Fin 2048) (h : Fin 256) :
    unit z (ix3 g t h) = Ideal.div (z (ix3 g t h))
      (Ideal.sqrt (∑ x : Fin 256, z (ix3 g t x) * z (ix3 g t x)) + Ideal.ofBits FTy.f32 0x358637BD#32) := by
  pointwise [unit]

theorem gate_apply (z : FVec Ideal S8x2048x256 .f32) (g : Fin 8) (t : Fin 2048) :
    gate z (ix2 g t) = Ideal.div (∑ x : Fin 256, sigm z (ix3 g t x)) (Ideal.ofBits FTy.f32 0x43800000#32) := by
  pointwise [gate]

theorem eye_apply (i j : Fin 256) : (uitofp .f32 (cmpi .eq (addi (iotaInDim S256x256 32 0) (broadcastInDim S256x256 ![] bcast_S_S256x256 (constantI S_ 32 0#32)))
      (iotaInDim S256x256 32 1)) : FVec Ideal S256x256 .f32) (ix2 i j) = if i.val = j.val then 1 else 0 := by
  pointwise []
  rw [show IntOp.addi (BitVec.ofNat 32 i.val) 0#32 = BitVec.ofNat 32 i.val from BitVec.add_zero _,
    WordCmp.cmpi_eq_ofNat (by omega) (by omega)]
  by_cases h : i.val = j.val
  · rw [if_pos h, decide_eq_true h]
    show ((((1 : ℕ) : ℝ)) : EReal) = 1
    norm_num
  · rw [if_neg h, decide_eq_false h]
    show ((((BitVec.ofBool false).toNat : ℝ)) : EReal) = 0
    norm_num

end Cert.ReferenceIdeal.Entry

end
-- ==== Proof.RefStep.lean ====
/- One trip of the reference's loop, at an index. -/
module

public import proofs.«01_k».proof.Proof.RefEntry

@[expose] public section

set_option maxRecDepth 16384
set_option maxHeartbeats 1000000

noncomputable section

open Idealize.ShloMosaic Idealize.ShloMosaic.TcCoe Idealize.SL.Sem Idealize.ShloMosaic.StableHlo

namespace Cert.ReferenceIdeal.Step

open Cert.ReferenceIdeal Cert.ReferenceIdeal.Gen Cert.ReferenceIdeal.Value

/-- Trip `k`'s row of a sequence of matrices. -/
theorem row3 (x : FVec Ideal S2048x8x256 .f32) (n : IVec S_ 32) (k : Fin 2048) (hn : n = fun _ => BitVec.ofNat 32 k.val)
    (g : Fin 8) (h : Fin 256) :
    shapeCast S8x256 (Host.dynamicSlice S1x8x256 x (fun a => (((![n, constantI S_ 32 0#32, constantI S_ 32 0#32] :
      Fin 3 → IVec S_ 32)) a (Shape.Idx.first h_S_)).toInt) sliceFits_S2048x8x256_S1x8x256) shapeCasts_S1x8x256_S8x256 (ix2 g h)
      = x (ix3 k g h) := by
  have hk := k.isLt
  rw [WordCmp.dynamicSlice_eq_extract S1x8x256 x _ _ ![k.val, 0, 0]
    ⟨rfl, by intro a; fin_cases a <;> simp [Matrix.cons_val_zero] <;> omega⟩ ?_]
  · pointwise []
  · intro a
    subst hn
    fin_cases a
    · exact WordCmp.toInt_ofNat_of_lt (by omega)
    · rfl
    · rfl

/-- Trip `k`'s row of a sequence of vectors. -/
theorem row2 (x : FVec Ideal S2048x8 .f32) (n : IVec S_ 32) (k : Fin 2048) (hn : n = fun _ => BitVec.ofNat 32 k.val)
    (g : Fin 8) :
    shapeCast S8 (Host.dynamicSlice S1x8 x (fun a => (((![n, constantI S_ 32 0#32] :
      Fin 2 → IVec S_ 32)) a (Shape.Idx.first h_S_)).toInt) sliceFits_S2048x8_S1x8) shapeCasts_S1x8_S8 (ix1 g)
      = x (ix2 k g) := by
  have hk := k.isLt
  rw [WordCmp.dynamicSlice_eq_extract S1x8 x _ _ ![k.val, 0]
    ⟨rfl, by intro a; fin_cases a <;> simp [Matrix.cons_val_zero] <;> omega⟩ ?_]
  · pointwise []
  · intro a
    subst hn
    fin_cases a
    · exact WordCmp.toInt_ofNat_of_lt (by omega)
    · rfl

/-- Trip `k` writes row `k`. -/
theorem put (x : FVec Ideal S2048x8x256 .f32) (u : FVec Ideal S8x256 .f32) (n : IVec S_ 32) (k : Fin 2048)
    (hn : n = fun _ => BitVec.ofNat 32 k.val) (t : Fin 2048) (g : Fin 8) (h : Fin 256) :
    Host.dynamicUpdateSlice x (broadcastInDim S1x8x256 ![1, 2] bcast_S8x256_S1x8x256_1_2 u)
      (fun a => (((![n, constantI S_ 32 0#32, constantI S_ 32 0#32] :
      Fin 3 → IVec S_ 32)) a (Shape.Idx.first h_S_)).toInt) updateFits_S2048x8x256_S1x8x256 (ix3 t g h)
      = if t.val = k.val then u (ix2 g h) else x (ix3 t g h) := by
  have hk := k.isLt
  rw [WordCmp.dynamicUpdateSlice_eq_update (u := S1x8x256) x _ _ _ ![k.val, 0, 0]
    ⟨rfl, by intro a; fin_cases a <;> simp [Matrix.cons_val_zero] <;> omega⟩ ?_]
  · pointwise []
    by_cases e : t.val = k.val
    · rw [if_pos e, dif_pos ⟨by omega, by omega⟩]
    · rw [if_neg e, dif_neg (by omega)]
  · intro a
    subst hn
    fin_cases a
    · exact WordCmp.toInt_ofNat_of_lt (by omega)
    · rfl
    · rfl

/-- The new state, of the trip's gates, key and value. -/
theorem next_form (a b : FVec Ideal S8 .f32) (kk v : FVec Ideal S8x256 .f32) (T : FVec Ideal S8x256x256 .f32)
    (E : FVec Ideal S256x256 .f32) (g : Fin 8) (i j : Fin 256) :
    addf (mulf (broadcastInDim S8x256x256 ![0, 1, 2] bcast_S8x1x1_S8x256x256_0_1_2 (broadcastInDim S8x1x1 ![0] bcast_S8_S8x1x1_0 a))
      (Host.dotGeneral dot_S8x256x256_S8x256x256_S8x256x256_2_1_1_2_0_0 none T
        (subf (broadcastInDim S8x256x256 ![0, 1, 2] bcast_S1x256x256_S8x256x256_0_1_2 (broadcastInDim S1x256x256 ![1, 2] bcast_S256x256_S1x256x256_1_2 E))
          (mulf (broadcastInDim S8x256x256 ![0, 1, 2] bcast_S8x1x1_S8x256x256_0_1_2 (broadcastInDim S8x1x1 ![0] bcast_S8_S8x1x1_0 b))
            (mulf (broadcastInDim S8x256x256 ![0, 1, 2] bcast_S8x256x1_S8x256x256_0_1_2 (broadcastInDim S8x256x1 ![0, 1] bcast_S8x256_S8x256x1_0_1 kk))
              (broadcastInDim S8x256x256 ![0, 1, 2] bcast_S8x1x256_S8x256x256_0_1_2 (broadcastInDim S8x1x256 ![0, 2] bcast_S8x256_S8x1x256_0_2 kk)))))))
      (mulf (broadcastInDim S8x256x256 ![0, 1, 2] bcast_S8x1x1_S8x256x256_0_1_2 (broadcastInDim S8x1x1 ![0] bcast_S8_S8x1x1_0 b))
        (mulf (broadcastInDim S8x256x256 ![0, 1, 2] bcast_S8x256x1_S8x256x256_0_1_2 (broadcastInDim S8x256x1 ![0, 1] bcast_S8x256_S8x256x1_0_1 v))
          (broadcastInDim S8x256x256 ![0, 1, 2] bcast_S8x1x256_S8x256x256_0_1_2 (broadcastInDim S8x1x256 ![0, 2] bcast_S8x256_S8x1x256_0_2 kk)))) (ix3 g i j)
      = a (ix1 g) * ∑ x : Fin 256, T (ix3 g i x) * (E (ix2 x j) - b (ix1 g) * (kk (ix2 g x) * kk (ix2 g j)))
        + b (ix1 g) * (v (ix2 g i) * kk (ix2 g j)) := by
  pointwise []

/-- A state applied to a query. -/
theorem out_form (T : FVec Ideal S8x256x256 .f32) (q : FVec Ideal S8x256 .f32) (g : Fin 8) (i : Fin 256) :
    Host.dotGeneral dot_S8x256x256_S8x256_S8x256_2_1_1_n_0_0 none T q (ix2 g i) = ∑ x : Fin 256, T (ix3 g i x) * q (ix2 g x) := by
  pointwise []

section Trip

variable (V : Valuation τ sig (Elt Ideal))

abbrev bq : FVec Ideal S2048x8x256 .f32 := V (Proc.devRef .tc main_v69_0)
abbrev bk : FVec Ideal S2048x8x256 .f32 := V (Proc.devRef .tc main_v69_1)
abbrev bv : FVec Ideal S2048x8x256 .f32 := V (Proc.devRef .tc main_v69_2)
abbrev ba : FVec Ideal S2048x8 .f32 := V (Proc.devRef .tc main_v69_3)
abbrev bb : FVec Ideal S2048x8 .f32 := V (Proc.devRef .tc main_v69_4)
abbrev be : FVec Ideal S256x256 .f32 := V (Proc.devRef .tc main_v69_5)
abbrev bn : IVec S_ 32 := V (Proc.devRef .tc main_v69_6)
abbrev bs : FVec Ideal S8x256x256 .f32 := V (Proc.devRef .tc main_v69_7)
abbrev bo : FVec Ideal S2048x8x256 .f32 := V (Proc.devRef .tc main_v69_8)

variable {V} {k : Fin 2048} (hn : bn V = fun _ => BitVec.ofNat 32 k.val)

include hn in
/-- The state after trip `k`. -/
theorem state_apply (g : Fin 8) (i j : Fin 256) : bs (STEP V) (ix3 g i j)
    = ba V (ix2 k g) * ∑ x : Fin 256, bs V (ix3 g i x) * (be V (ix2 x j) - bb V (ix2 k g) * (bk V (ix3 k g x) * bk V (ix3 k g j)))
      + bb V (ix2 k g) * (bv V (ix3 k g i) * bk V (ix3 k g j)) := by
  have e : bs (STEP V) = res_main_while0b_v104 V := STEP_main_v69_7 V
  have hk : ∀ x : Fin 256, (res_main_while0b_v77 V : FVec Ideal S8x256 .f32) (ix2 g x) = bk V (ix3 k g x) :=
    fun x => row3 (bk V) (bn V) k hn g x
  have hb : (res_main_while0b_v80 V : FVec Ideal S8 .f32) (ix1 g) = bb V (ix2 k g) := row2 (bb V) (bn V) k hn g
  rw [e]
  unfold res_main_while0b_v104
  refine (next_form _ (res_main_while0b_v80 V) (res_main_while0b_v77 V) _ _ _ g i j).trans ?_
  rw [hb, hk j]
  refine congrArg₂ _ (congrArg₂ _ (row2 (ba V) (bn V) k hn g) (Finset.sum_congr rfl fun x _ => by rw [hk x]))
    (congrArg _ (congrArg (· * _) (row3 (bv V) (bn V) k hn g i)))

include hn in
/-- The outputs after trip `k`: row `k` is the new state applied to the query. -/
theorem out_apply (t : Fin 2048) (g : Fin 8) (i : Fin 256) : bo (STEP V) (ix3 t g i)
    = if t.val = k.val then ∑ x : Fin 256, bs (STEP V) (ix3 g i x) * bq V (ix3 k g x) else bo V (ix3 t g i) := by
  have e : bs (STEP V) = res_main_while0b_v104 V := STEP_main_v69_7 V
  have e' : bo (STEP V) = step_main_v69_8 V := STEP_main_v69_8 V
  rw [e', e]
  refine (put (bo V) _ (bn V) k hn t g i).trans ?_
  refine if_congr Iff.rfl ?_ rfl
  refine (out_form _ _ g i).trans (Finset.sum_congr rfl fun x _ => ?_)
  exact congrArg _ (row3 (bq V) (bn V) k hn g x)

include hn in
/-- The counter after trip `k`. -/
theorem count_apply : bn (STEP V) = fun _ => BitVec.ofNat 32 (k.val + 1) := by
  have e : bn (STEP V) = step_main_v69_6 V := STEP_main_v69_6 V
  rw [e]
  funext i
  refine (congrArg (fun w : BitVec 32 => w + 1#32) (congrFun hn i)).trans ?_
  show BitVec.ofNat 32 k.val + BitVec.ofNat 32 1 = _
  rw [← BitVec.ofNat_add]

end Trip

/-- What the reference returns, of the outputs the loop leaves. -/
theorem result_apply (V : Valuation τ sig (Elt Ideal)) (g : Fin 8) (t : Fin 2048) (h : Fin 256) :
    (out_main_v75 V : FVec Ideal S8x2048x256 .f32) (ix3 g t h)
      = ∑ j : Fin 256, bo V (ix3 t g j) * (V (Proc.devRef .tc main_arg11) : FVec Ideal S256x256 .f32) (ix2 h j)
        + (V (Proc.devRef .tc main_arg12) : FVec Ideal S256 .f32) (ix1 h) := by
  pointwise [out_main_v75]

end Cert.ReferenceIdeal.Step

end
-- ==== Proof.Spec.lean ====
/- The layer over the reals: what queries, keys, values, gates, states and outputs are, as functions of the arguments, and
   that the operations of both programs compute them. -/
module

public import proofs.«01_k».proof.Proof.Recurrence
public import Idealize.ShloMosaic.Lib.Pointwise
public import Mathlib.Tactic.Positivity
public import Mathlib.Tactic.NormNum
public import Mathlib.Tactic.Linarith
public import Mathlib.Tactic.FieldSimp

@[expose] public section

set_option maxRecDepth 16384

noncomputable section

open Idealize.ShloMosaic

namespace Cert.Spec

open Cert.Recurrence

/-! ### The functions -/

/-- The small constant under a norm. -/
def eps : ℝ := (Ideal.ofBits FTy.f32 0x358637BD#32).toReal
/-- The least decay the logarithm is asked of. -/
def tiny : ℝ := (Ideal.ofBits FTy.f32 0x0DA24260#32).toReal

theorem eps_eq : Ideal.ofBits FTy.f32 0x358637BD#32 = (eps : EReal) := by
  have : Ideal.ofBits FTy.f32 0x358637BD#32 = ((8796093 / 8796093022208 : ℝ) : EReal) := by
    simp [Ideal.ofBits, Ideal.ieee, -EReal.coe_mul]; norm_num
  unfold eps; rw [this, EReal.toReal_coe]

theorem eps_pos : 0 < eps := by
  have : Ideal.ofBits FTy.f32 0x358637BD#32 = ((8796093 / 8796093022208 : ℝ) : EReal) := by
    simp [Ideal.ofBits, Ideal.ieee, -EReal.coe_mul]; norm_num
  unfold eps; rw [this, EReal.toReal_coe]; norm_num

theorem tiny_val : Ideal.ofBits FTy.f32 0x0DA24260#32 = ((10633824 / 2 ^ 123 : ℝ) : EReal) := by
  simp [Ideal.ofBits, Ideal.ieee, -EReal.coe_mul]; norm_num

theorem tiny_eq : Ideal.ofBits FTy.f32 0x0DA24260#32 = (tiny : EReal) := by
  unfold tiny; rw [tiny_val, EReal.toReal_coe]

theorem tiny_pos : 0 < tiny := by unfold tiny; rw [tiny_val, EReal.toReal_coe]; positivity

theorem width_eq : Ideal.ofBits FTy.f32 0x43800000#32 = ((256 : ℝ) : EReal) := by
  simp [Ideal.ofBits, Ideal.ieee, -EReal.coe_mul]; norm_num

theorem top_eq : Ideal.ofBits FTy.f32 0x7F800000#32 = (⊤ : EReal) := by
  simp [Ideal.ofBits, Ideal.ieee]

/-- A projection times its logistic. At `-∞` it is 0, at `∞` infinite. -/
def silu (y : EReal) : EReal := y * Ideal.logistic y

/-- A row of projections through `silu`, times the reciprocal of its norm. -/
def unitE (y : Fin 256 → EReal) (h : Fin 256) : EReal :=
  silu (y h) * Ideal.div 1 (Ideal.sqrt (∑ x, silu (y x) * silu (y x)) + Ideal.ofBits FTy.f32 0x358637BD#32)

/-- The same as a real, which it always is (`unit_mul`). -/
def unit (y : Fin 256 → EReal) (h : Fin 256) : ℝ := (unitE y h).toReal

/-- The logistic of any projection, an infinite one included. -/
def sig (y : EReal) : ℝ := (Ideal.logistic y).toReal

/-- A gate: the mean of the logistics. -/
def gate (y : Fin 256 → EReal) : ℝ := (∑ h, sig (y h)) / 256

/-! ### The programs' operations compute them -/

theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

theorem logistic_eq (y : EReal) : Ideal.logistic y = (sig y : EReal) := by
  unfold sig
  induction y with
  | bot => rw [Ideal.logistic_bot]; rfl
  | top => rw [Ideal.logistic_top]; rfl
  | coe r => rw [Ideal.logistic_coe, EReal.toReal_coe]

/-- An extended real that is a real. -/
def Fin' (v : EReal) : Prop := v = (v.toReal : EReal)

/-- `silu` is infinite at `∞` alone. -/
theorem silu_real {y : EReal} (h : y ≠ ⊤) : Fin' (silu y) := by
  unfold silu Fin'
  induction y with
  | bot => rw [Ideal.logistic_bot, mul_zero]; rfl
  | top => exact absurd rfl h
  | coe r => rw [Ideal.logistic_coe, ← EReal.coe_mul]; rfl

theorem silu_top : silu ⊤ = ⊤ := by unfold silu; rw [Ideal.logistic_top, mul_one]

/-- A square is not negative. -/
theorem mul_self_nonneg' (v : EReal) : 0 ≤ v * v := by
  induction v with
  | bot => rw [EReal.bot_mul_bot]; exact le_top
  | top => rw [EReal.top_mul_top]; exact le_top
  | coe r => rw [← EReal.coe_mul]; exact EReal.coe_nonneg.2 (mul_self_nonneg r)

theorem norm_eq (u : Fin 256 → ℝ) : Ideal.sqrt (∑ x, (u x : EReal) * (u x : EReal)) + Ideal.ofBits FTy.f32 0x358637BD#32
    = ((√(∑ x, u x * u x) + eps : ℝ) : EReal) := by
  rw [eps_eq, Finset.sum_congr rfl fun x _ => (EReal.coe_mul (u x) (u x)).symm, coe_sum (fun x => u x * u x),
    Ideal.sqrt_coe, if_neg (not_lt.2 (Finset.sum_nonneg fun x _ => mul_self_nonneg (u x))), ← EReal.coe_add]

theorem norm_pos (u : Fin 256 → ℝ) : 0 < √(∑ x, u x * u x) + eps := by
  have := Real.sqrt_nonneg (∑ x, u x * u x); have := eps_pos; linarith

/-- A norm is a positive real, or infinite where a projection is. -/
theorem norm_cases (y : Fin 256 → EReal) :
    (Ideal.sqrt (∑ x, silu (y x) * silu (y x)) + Ideal.ofBits FTy.f32 0x358637BD#32 = ⊤)
    ∨ (∀ x, Fin' (silu (y x))) ∧ ∃ n : ℝ, 0 < n
      ∧ Ideal.sqrt (∑ x, silu (y x) * silu (y x)) + Ideal.ofBits FTy.f32 0x358637BD#32 = (n : EReal) := by
  by_cases h : ∃ z, y z = ⊤
  · obtain ⟨z, hz⟩ := h
    have e : ∑ x, silu (y x) * silu (y x) = ⊤ := by
      refine top_le_iff.1 (le_trans (le_of_eq ?_)
        (Finset.single_le_sum (f := fun x => silu (y x) * silu (y x)) (fun x _ => mul_self_nonneg' _) (Finset.mem_univ z)))
      show ⊤ = silu (y z) * silu (y z)
      rw [hz, silu_top, EReal.top_mul_top]
    exact Or.inl (by rw [e, Ideal.sqrt_top, eps_eq, EReal.top_add_coe])
  · have r : ∀ x, Fin' (silu (y x)) := fun x => silu_real fun hx => h ⟨x, hx⟩
    have e : ∑ x, silu (y x) * silu (y x) = ∑ x, (((silu (y x)).toReal : EReal)) * ((silu (y x)).toReal : EReal) :=
      Finset.sum_congr rfl fun x _ => congrArg₂ (· * ·) (r x) (r x)
    exact Or.inr ⟨r, _, norm_pos fun x => (silu (y x)).toReal, by rw [e, norm_eq]⟩

theorem div_top (x : EReal) : Ideal.div x ⊤ = 0 := by simp [Ideal.div]

/-- A row times the reciprocal of its norm, as the kernel has it, is real whatever the projections are. -/
theorem unit_mul (y : Fin 256 → EReal) (h : Fin 256) : unitE y h = (unit y h : EReal) := by
  unfold unit
  show Fin' (unitE y h)
  unfold unitE
  rcases norm_cases y with e | ⟨r, n, hn, e⟩ <;> rw [e]
  · rw [div_top, mul_zero]; rfl
  · rw [Ideal.div_coe hn.ne', one_mul, r h, ← EReal.coe_mul]; rfl

/-- A row divided by its norm, as the reference divides, is the same. -/
theorem unit_div (y : Fin 256 → EReal) (h : Fin 256) :
    Ideal.div (silu (y h)) (Ideal.sqrt (∑ x, silu (y x) * silu (y x)) + Ideal.ofBits FTy.f32 0x358637BD#32) = (unit y h : EReal) := by
  rw [← unit_mul]
  unfold unitE
  rcases norm_cases y with e | ⟨r, n, hn, e⟩ <;> rw [e]
  · rw [div_top, div_top, mul_zero]
  · rw [Ideal.div_coe hn.ne', Ideal.div_coe hn.ne', one_mul]

theorem gate_eq (y : Fin 256 → EReal) :
    Ideal.div (∑ x, Ideal.logistic (y x)) (Ideal.ofBits FTy.f32 0x43800000#32) = (gate y : EReal) := by
  rw [width_eq, Finset.sum_congr rfl fun x _ => logistic_eq (y x), coe_sum, Ideal.div_coe (by norm_num), ← EReal.coe_mul]
  unfold gate; rw [mul_one_div]

/-- The logarithm of a decay that is not too small. -/
theorem log_eq {a : ℝ} (h : tiny ≤ a) :
    Ideal.log (max (a : EReal) (Ideal.ofBits FTy.f32 0x0DA24260#32)) = (Real.log a : EReal) := by
  rw [tiny_eq, max_eq_left (EReal.coe_le_coe_iff.2 h), Ideal.log_coe, if_neg (not_le.2 (tiny_pos.trans_le h))]

/-! ### The layer -/

/-- The arguments. -/
structure Inputs where
  x : Fin 8 → Fin 2048 → Fin 256 → EReal
  Wq : Fin 256 → Fin 256 → EReal
  bq : Fin 256 → EReal
  Wk : Fin 256 → Fin 256 → EReal
  bk : Fin 256 → EReal
  Wv : Fin 256 → Fin 256 → EReal
  bv : Fin 256 → EReal
  Wa : Fin 256 → Fin 256 → EReal
  ba : Fin 256 → EReal
  Wb : Fin 256 → Fin 256 → EReal
  bb : Fin 256 → EReal
  Wo : Fin 256 → Fin 256 → EReal
  bo : Fin 256 → EReal

/-- A projection of a token. -/
def lin (x : Fin 8 → Fin 2048 → Fin 256 → EReal) (W : Fin 256 → Fin 256 → EReal) (b : Fin 256 → EReal)
    (g : Fin 8) (t : Fin 2048) (h : Fin 256) : EReal := ∑ d, x g t d * W h d + b h

namespace Inputs

variable (I : Inputs)

def q (g : Fin 8) (t : Fin 2048) : Fin 256 → ℝ := unit (lin I.x I.Wq I.bq g t)
def k (g : Fin 8) (t : Fin 2048) : Fin 256 → ℝ := unit (lin I.x I.Wk I.bk g t)
def v (g : Fin 8) (t : Fin 2048) (h : Fin 256) : ℝ := (silu (lin I.x I.Wv I.bv g t h)).toReal
def a (g : Fin 8) (t : Fin 2048) : ℝ := gate (lin I.x I.Wa I.ba g t)
def b (g : Fin 8) (t : Fin 2048) : ℝ := gate (lin I.x I.Wb I.bb g t)

/-- The arguments the claim is about: no value is infinite, and no decay is below the bound. -/
structure Good : Prop where
  v : ∀ g t h, Fin' (silu (lin I.x I.Wv I.bv g t h))
  a : ∀ g t, tiny ≤ I.a g t

/-- A family over the tokens and the width, continued by 0. -/
def up2 (f : Fin 2048 → Fin 256 → ℝ) (t h : ℕ) : ℝ := if ht : t < 2048 then if hh : h < 256 then f ⟨t, ht⟩ ⟨h, hh⟩ else 0 else 0
/-- A family over the tokens, continued by 0. -/
def up1 (f : Fin 2048 → ℝ) (t : ℕ) : ℝ := if ht : t < 2048 then f ⟨t, ht⟩ else 0

theorem up2_of (f : Fin 2048 → Fin 256 → ℝ) {t h : ℕ} (ht : t < 2048) (hh : h < 256) : up2 f t h = f ⟨t, ht⟩ ⟨h, hh⟩ := by
  unfold up2; rw [dif_pos ht, dif_pos hh]
theorem up1_of (f : Fin 2048 → ℝ) {t : ℕ} (ht : t < 2048) : up1 f t = f ⟨t, ht⟩ := by unfold up1; rw [dif_pos ht]

/-- The state of batch `g` after `t` tokens. -/
def S (g : Fin 8) : ℕ → ℕ → ℕ → ℝ :=
  state (up1 (I.a g)) (up1 (I.b g)) (up2 (I.k g)) (up2 (I.v g)) fun _ _ => 0

/-- Token `t`'s output of batch `g`: the state after the token, applied to its query. -/
def o (g : Fin 8) (t : ℕ) (i : ℕ) : ℝ := ∑ j ∈ Finset.range 256, I.S g (t + 1) i j * up2 (I.q g) t j

/-- The result. -/
def result (g : Fin 8) (t : Fin 2048) (h : Fin 256) : EReal := ∑ i : Fin 256, (I.o g t i : EReal) * I.Wo h i + I.bo h

end Inputs

end Cert.Spec

end
-- ==== Proof.RefValue.lean ====
/- The reference's result, for values that are finite: the layer of `Spec`. -/
module

public import proofs.«01_k».proof.Proof.RefStep
public import proofs.«01_k».proof.Proof.Spec

@[expose] public section

set_option maxRecDepth 16384
set_option maxHeartbeats 1000000

noncomputable section

open Idealize.ShloMosaic Idealize.ShloMosaic.TcCoe Idealize.SL.Sem Idealize.ShloMosaic.StableHlo

namespace Cert.ReferenceIdeal.Result

open Cert.ReferenceIdeal Cert.ReferenceIdeal.Gen Cert.ReferenceIdeal.Value Cert.ReferenceIdeal.Entry Cert.ReferenceIdeal.Step
open Cert.Spec Cert.Recurrence

/-- An array by its three coordinates. -/
abbrev f3 (X : FVec Ideal S8x2048x256 .f32) : Fin 8 → Fin 2048 → Fin 256 → EReal := fun g t d => X (ix3 g t d)
/-- A matrix by its two coordinates. -/
abbrev f2 (X : FVec Ideal S256x256 .f32) : Fin 256 → Fin 256 → EReal := fun h d => X (ix2 h d)
/-- A vector by its coordinate. -/
abbrev f1 (X : FVec Ideal S256 .f32) : Fin 256 → EReal := fun h => X (ix1 h)

variable (m : (ℓ : Loc nD τ sig) → Buf (Elt Ideal) ℓ) (c : Dev nD)

/-- The arguments, read off the memory. -/
def inp : Inputs where
  x := f3 (arg m c main_arg0)
  Wq := f2 (arg m c main_arg1)
  bq := f1 (arg m c main_arg2)
  Wk := f2 (arg m c main_arg3)
  bk := f1 (arg m c main_arg4)
  Wv := f2 (arg m c main_arg5)
  bv := f1 (arg m c main_arg6)
  Wa := f2 (arg m c main_arg7)
  ba := f1 (arg m c main_arg8)
  Wb := f2 (arg m c main_arg9)
  bb := f1 (arg m c main_arg10)
  Wo := f2 (arg m c main_arg11)
  bo := f1 (arg m c main_arg12)

/-- `silu` of a projection. -/
theorem silu_proj (x : FVec Ideal S8x2048x256 .f32) (W : FVec Ideal S256x256 .f32) (b : FVec Ideal S256 .f32)
    (g : Fin 8) (t : Fin 2048) (h : Fin 256) :
    Entry.silu (proj x W b) (ix3 g t h) = Spec.silu (lin (f3 x) (f2 W) (f1 b) g t h) := by
  rw [silu_apply, sigm_apply, proj_apply]
  rfl

/-- A projection's `silu`, each token's row over its norm. -/
theorem unit_proj (x : FVec Ideal S8x2048x256 .f32) (W : FVec Ideal S256x256 .f32) (b : FVec Ideal S256 .f32)
    (g : Fin 8) (t : Fin 2048) (h : Fin 256) :
    Entry.unit (Entry.silu (proj x W b)) (ix3 g t h) = (Spec.unit (lin (f3 x) (f2 W) (f1 b) g t) h : EReal) := by
  rw [unit_apply, silu_proj x W b g t h, Finset.sum_congr rfl fun y _ => by rw [silu_proj x W b g t y], unit_div]

/-- The mean of a projection's logistics. -/
theorem gate_proj (x : FVec Ideal S8x2048x256 .f32) (W : FVec Ideal S256x256 .f32) (b : FVec Ideal S256 .f32)
    (g : Fin 8) (t : Fin 2048) :
    Entry.gate (proj x W b) (ix2 g t) = (Spec.gate (lin (f3 x) (f2 W) (f1 b) g t) : EReal) := by
  rw [gate_apply, ← gate_eq]
  refine congrArg (Ideal.div · _) (Finset.sum_congr rfl fun y _ => ?_)
  rw [sigm_apply, proj_apply]
  rfl

theorem swap3 (X : FVec Ideal S8x2048x256 .f32) (t : Fin 2048) (g : Fin 8) (h : Fin 256) :
    (transpose S2048x8x256 [1, 0, 2] X transposes_S8x2048x256_S2048x8x256_1_0_2 : FVec Ideal S2048x8x256 .f32) (ix3 t g h)
      = X (ix3 g t h) := by pointwise []

theorem swap2 (X : FVec Ideal S8x2048 .f32) (t : Fin 2048) (g : Fin 8) :
    (transpose S2048x8 [1, 0] X transposes_S8x2048_S2048x8_1_0 : FVec Ideal S2048x8 .f32) (ix2 t g) = X (ix2 g t) := by
  pointwise []

/-- The contents at the loop's entry. -/
abbrev E : Valuation τ sig (Elt Ideal) := entryContents preI m c

variable {m c} (hI : (inp m c).Good)
include hI

omit hI in
theorem q_apply (t : Fin 2048) (g : Fin 8) (h : Fin 256) : bq (E m c) (ix3 t g h) = ((inp m c).q g t h : EReal) :=
  (congrFun (entry_q m c) (ix3 t g h)).trans <| (swap3 _ t g h).trans <|
    unit_proj _ _ _ g t h

omit hI in
theorem k_apply (t : Fin 2048) (g : Fin 8) (h : Fin 256) : bk (E m c) (ix3 t g h) = ((inp m c).k g t h : EReal) :=
  (congrFun (entry_k m c) (ix3 t g h)).trans <| (swap3 _ t g h).trans <|
    unit_proj _ _ _ g t h

theorem v_apply (t : Fin 2048) (g : Fin 8) (h : Fin 256) : bv (E m c) (ix3 t g h) = ((inp m c).v g t h : EReal) :=
  (congrFun (entry_v m c) (ix3 t g h)).trans <| (swap3 _ t g h).trans <|
    (silu_proj _ _ _ g t h).trans (hI.v g t h)

omit hI in
theorem a_apply (t : Fin 2048) (g : Fin 8) : ba (E m c) (ix2 t g) = ((inp m c).a g t : EReal) :=
  (congrFun (entry_a m c) (ix2 t g)).trans <| (swap2 _ t g).trans <| gate_proj _ _ _ g t

omit hI in
theorem b_apply (t : Fin 2048) (g : Fin 8) : bb (E m c) (ix2 t g) = ((inp m c).b g t : EReal) :=
  (congrFun (entry_b m c) (ix2 t g)).trans <| (swap2 _ t g).trans <| gate_proj _ _ _ g t

omit hI in
theorem e_apply (i j : Fin 256) : be (E m c) (ix2 i j) = if i.val = j.val then 1 else 0 :=
  (congrFun (entry_eye m c) (ix2 i j)).trans (eye_apply i j)

omit hI in
theorem s_apply (g : Fin 8) (i j : Fin 256) : bs (E m c) (ix3 g i j) = 0 :=
  (congrFun (entry_S m c) (ix3 g i j)).trans (by pointwise [])

omit hI in
/-- What the loop only reads. -/
theorem kept (n : ℕ) : bq (STEP^[n] (E m c)) = bq (E m c) ∧ bk (STEP^[n] (E m c)) = bk (E m c) ∧ bv (STEP^[n] (E m c)) = bv (E m c)
    ∧ ba (STEP^[n] (E m c)) = ba (E m c) ∧ bb (STEP^[n] (E m c)) = bb (E m c) ∧ be (STEP^[n] (E m c)) = be (E m c) := by
  induction n with
  | zero => exact ⟨rfl, rfl, rfl, rfl, rfl, rfl⟩
  | succ n ih =>
    rw [Function.iterate_succ_apply']
    exact ⟨(STEP_main_v69_0 _).trans ih.1, (STEP_main_v69_1 _).trans ih.2.1, (STEP_main_v69_2 _).trans ih.2.2.1,
      (STEP_main_v69_3 _).trans ih.2.2.2.1, (STEP_main_v69_4 _).trans ih.2.2.2.2.1, (STEP_main_v69_5 _).trans ih.2.2.2.2.2⟩

omit hI in
/-- The counter before trip `n`. -/
theorem counter (n : ℕ) (hn : n ≤ 2048) : bn (STEP^[n] (E m c)) = fun _ => BitVec.ofNat 32 n := by
  induction n with
  | zero => exact ctr_entry m c
  | succ n ih =>
    rw [Function.iterate_succ_apply']
    exact count_apply (k := ⟨n, by omega⟩) (ih (by omega))

/-- The states and the outputs before trip `n`. -/
theorem trips (n : ℕ) (hn : n ≤ 2048) : (∀ g i j, bs (STEP^[n] (E m c)) (ix3 g i j) = ((inp m c).S g n i j : EReal))
    ∧ ∀ t : Fin 2048, t.val < n → ∀ g i, bo (STEP^[n] (E m c)) (ix3 t g i) = ((inp m c).o g t i : EReal) := by
  induction n with
  | zero => exact ⟨fun g i j => (s_apply g i j).trans EReal.coe_zero.symm, fun t ht => absurd ht (by omega)⟩
  | succ n ih =>
    obtain ⟨hS, hO⟩ := ih (by omega)
    have hc := counter (m := m) (c := c) n (by omega)
    obtain ⟨kq, kk, kv, ka, kb, ke⟩ := kept (m := m) (c := c) n
    have hlt : n < 2048 := by omega
    rw [Function.iterate_succ_apply']
    have s : ∀ g i j, bs (STEP (STEP^[n] (E m c))) (ix3 g i j) = ((inp m c).S g (n + 1) i j : EReal) := by
      intro g i j
      rw [state_apply (k := ⟨n, hlt⟩) hc, kk, kv, ka, kb, ke, a_apply, b_apply, v_apply hI, k_apply]
      rw [Finset.sum_congr rfl fun x _ => by
        rw [hS, e_apply, k_apply, show ((if x.val = j.val then 1 else 0 : EReal)) = (((if x.val = j.val then 1 else 0 : ℝ)) : EReal) by
            split_ifs <;> simp, ← EReal.coe_mul, ← EReal.coe_mul, ← EReal.coe_sub, ← EReal.coe_mul],
        coe_sum, ← EReal.coe_mul, ← EReal.coe_mul, ← EReal.coe_mul, ← EReal.coe_add]
      refine congrArg _ ?_
      rw [Inputs.S, state_succ, ← next_eq _ _ _ _ _ _ _ j.isLt, Finset.sum_range, Inputs.up1_of _ hlt, Inputs.up1_of _ hlt,
        Inputs.up2_of _ hlt i.isLt, Inputs.up2_of _ hlt j.isLt]
      refine congrArg (_ * · + _) (Finset.sum_congr rfl fun x _ => ?_)
      rw [Inputs.up2_of _ hlt x.isLt]
    refine ⟨s, fun t ht g i => ?_⟩
    rw [out_apply (k := ⟨n, hlt⟩) hc, kq]
    by_cases e : t.val = n
    · rw [if_pos e, Finset.sum_congr rfl fun x _ => by rw [s, q_apply, ← EReal.coe_mul], coe_sum]
      refine congrArg _ ?_
      rw [Inputs.o, Finset.sum_range, e]
      refine Finset.sum_congr rfl fun x _ => ?_
      rw [Inputs.up2_of _ hlt x.isLt]
    · rw [if_neg e]
      exact hO t (by omega) g i

/-- The reference returns the layer's result. -/
theorem result (g : Fin 8) (t : Fin 2048) (h : Fin 256) :
    (out_main_v75 (STEP^[2048] (E m c)) : FVec Ideal S8x2048x256 .f32) (ix3 g t h) = (inp m c).result g t h := by
  rw [result_apply, iter_main_arg11, iter_main_arg12, Finset.sum_congr rfl fun j _ => by rw [(trips hI 2048 le_rfl).2 t t.isLt g j]]
  rfl

end Cert.ReferenceIdeal.Result

end
-- ==== Proof.Pre.lean ====
/- What the claim's precondition says: its printed test, read back as the finiteness of the values and the bound on the
   decays. -/
module

public import proofs.«01_k».proof.Pre_tame
public import proofs.«01_k».proof.Proof.RefValue
public import Idealize.ShloMosaic.Lib.Pointwise
public import Idealize.ShloMosaic.Lib.ReduceAll

@[expose] public section

set_option maxRecDepth 16384

noncomputable section

open Idealize.ShloMosaic

namespace Cert.Pre_tame

/-- The test's side conditions. -/
instance facts : Cert.Pre_tame.Facts where
  transposes_S256x256_S256x256_1_0 := by decide
  bcast_S256_S1x1x256_2 := by decide
  bcast_S1x1x256_S8x2048x256_0_1_2 := by decide
  bcast_S_S8x2048x256 := by decide
  reducesTo_S8x2048x256_S8x2048_d2 := by decide
  h_S_ := by decide
  bcast_S_S8x2048 := by decide
  reducesTo_S8x2048x256_S_d0_1_2 := by decide
  reducesTo_S8x2048_S_d0_1 := by decide
  dot_S8x2048x256_S256x256_S8x2048x256_2_0_01_1_n_n_wf := by decide

open Facts Cert.Spec

/-- A magnitude below infinity is a real's. -/
theorem fin_of_lt (v : EReal) (h : BitVec.ofBool (decide (max v (-v) < Ideal.ofBits FTy.f32 0x7F800000#32)) = 1#1) : Fin' v := by
  rw [top_eq] at h
  induction v with
  | bot => exact absurd h (by simp)
  | top => exact absurd h (by simp)
  | coe r => rfl

/-- A test that is met. -/
theorem of_bit {p : Prop} [Decidable p] (h : BitVec.ofBool (decide p) = 1#1) : p := by
  by_contra hn
  rw [decide_eq_false hn] at h
  exact absurd h (by decide)

theorem fin3 (x : FVec Ideal S8x2048x256 .f32)
    (h : Host.reduce IntOp.andi (cmpf .olt (Host.absf x) (broadcastInDim S8x2048x256 ![] bcast_S_S8x2048x256 (constant S_ .f32 0x7F800000#32)))
      (constantI S_ 1 1#1) reducesTo_S8x2048x256_S_d0_1_2 h_S_ = fun _ => 1#1) (g : Fin 8) (t : Fin 2048) (d : Fin 256) :
    Fin' (x (ix3 g t d)) := by
  have := Host.reduce_andi_all _ _ _ _ (Shape.Idx.first h_S_) (congrFun h _) (ix3 g t d)
  revert this
  pointwise []
  exact fin_of_lt _

/-- Two tests that are both met. -/
theorem both {a b : IVec S_ 1} (h : andi a b = fun _ => 1#1) : (a = fun _ => 1#1) ∧ b = fun _ => 1#1 :=
  ⟨funext fun i => (IntOp.andi_eq_one.1 (congrFun h i)).1, funext fun i => (IntOp.andi_eq_one.1 (congrFun h i)).2⟩

theorem decay (x : FVec Ideal S8x2048 .f32)
    (h : Host.reduce IntOp.andi (cmpf .oge x (broadcastInDim S8x2048 ![] bcast_S_S8x2048 (constant S_ .f32 0x0DA24260#32)))
      (constantI S_ 1 1#1) reducesTo_S8x2048_S_d0_1 h_S_ = fun _ => 1#1) (g : Fin 8) (d : Fin 2048) :
    (tiny : EReal) ≤ (x (ix2 g d)) := by
  have := Host.reduce_andi_all _ _ _ _ (Shape.Idx.first h_S_) (congrFun h _) (ix2 g d)
  revert this
  pointwise []
  intro this
  rw [← tiny_eq]
  exact of_bit this

open Cert.ReferenceIdeal.Result (f1 f2 f3 gate_proj silu_proj)

/-- The arguments as functions of their coordinates. -/
def inputs (x : FVec Ideal S8x2048x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32)
    (Wa : FVec Ideal S256x256 .f32) (ba : FVec Ideal S256 .f32) (Wb : FVec Ideal S256x256 .f32) (bb : FVec Ideal S256 .f32)
    (Wo : FVec Ideal S256x256 .f32) (bo : FVec Ideal S256 .f32) : Inputs :=
  ⟨f3 x, f2 Wq, f1 bq, f2 Wk, f1 bk, f2 Wv, f1 bv, f2 Wa, f1 ba, f2 Wb, f1 bb, f2 Wo, f1 bo⟩

/-- The precondition's test, read back. -/
theorem good (x : FVec Ideal S8x2048x256 .f32) (Wq : FVec Ideal S256x256 .f32) (bq : FVec Ideal S256 .f32)
    (Wk : FVec Ideal S256x256 .f32) (bk : FVec Ideal S256 .f32) (Wv : FVec Ideal S256x256 .f32) (bv : FVec Ideal S256 .f32)
    (Wa : FVec Ideal S256x256 .f32) (ba : FVec Ideal S256 .f32) (Wb : FVec Ideal S256x256 .f32) (bb : FVec Ideal S256 .f32)
    (Wo : FVec Ideal S256x256 .f32) (bo : FVec Ideal S256 .f32)
    (h : fn (F := Ideal) x Wq bq Wk bk Wv bv Wa ba Wb bb Wo bo = fun _ => 1#1) :
    (inputs x Wq bq Wk bk Wv bv Wa ba Wb bb Wo bo).Good := by
  obtain ⟨hv, ha⟩ := both h
  refine ⟨fun g t d => ?_, fun g t => ?_⟩
  · have e := fin3 (Cert.ReferenceIdeal.Entry.silu (Cert.ReferenceIdeal.Entry.proj x Wv bv)) hv g t d
    rw [silu_proj] at e
    exact e
  · have e := decay _ ha g t
    exact EReal.coe_le_coe_iff.1 (e.trans_eq (gate_proj x Wa ba g t))

end Cert.Pre_tame

end
-- ==== Proof.KernelChunk.lean ====
/- A chunk's queries, keys, values and gates, for values that are finite: those of the layer of `Spec`, at the
   chunk's tokens. -/
module

public import proofs.«01_k».proof.Proof.Reads
public import proofs.«01_k».proof.Proof.Pre

@[expose] public section

set_option maxRecDepth 16384
set_option maxHeartbeats 1000000

noncomputable section

open Idealize.ShloMosaic Idealize.ShloMosaic.TcCoe Idealize.SL.Sem

namespace Cert.KernelIdeal.Result

open Cert.KernelIdeal Cert.KernelIdeal.Gen Chunk Opened Reads
open Cert.Spec Cert.Recurrence

section Forms

variable (X : FVec Ideal S8x128x256 .f32) (W : FVec Ideal S256x1280 .bf16) (b : FVec Ideal S1x1280 .f32) (g : Fin 8) (r : Fin 128)

/-- Batch `g`, row `r` of a chunk's projections. -/
abbrev zrow (o : Fin 1280) : EReal := (k0_pay15 X W b : FVec Ideal S1024x1280 .f32) (ix2 ⟨128 * g.val + r.val, by omega⟩ o)

theorem qB_apply (h : Fin 256) : qB X W b g (ix2 r h) =
    (zrow X W b g r ⟨h.val, by omega⟩ * Ideal.logistic (zrow X W b g r ⟨h.val, by omega⟩)) * Ideal.div 1
      (Ideal.sqrt (∑ x : Fin 256, (zrow X W b g r ⟨x.val, by omega⟩ * Ideal.logistic (zrow X W b g r ⟨x.val, by omega⟩))
        * (zrow X W b g r ⟨x.val, by omega⟩ * Ideal.logistic (zrow X W b g r ⟨x.val, by omega⟩)))
        + Ideal.ofBits FTy.f32 0x358637BD#32) := by
  pointwise [qB, k0_pay16]

theorem kB_apply (h : Fin 256) : kB X W b g (ix2 r h) =
    (zrow X W b g r ⟨256 + h.val, by omega⟩ * Ideal.logistic (zrow X W b g r ⟨256 + h.val, by omega⟩)) * Ideal.div 1
      (Ideal.sqrt (∑ x : Fin 256, (zrow X W b g r ⟨256 + x.val, by omega⟩ * Ideal.logistic (zrow X W b g r ⟨256 + x.val, by omega⟩))
        * (zrow X W b g r ⟨256 + x.val, by omega⟩ * Ideal.logistic (zrow X W b g r ⟨256 + x.val, by omega⟩)))
        + Ideal.ofBits FTy.f32 0x358637BD#32) := by
  pointwise [kB, k0_pay17, k0_pay18, k0_pay19]

theorem vB_apply (h : Fin 256) : vB X W b g (ix2 r h) =
    zrow X W b g r ⟨512 + h.val, by omega⟩ * Ideal.logistic (zrow X W b g r ⟨512 + h.val, by omega⟩) := by
  pointwise [vB, k0_pay20]

theorem bB_apply (z : Fin 1) : bB X W b g (ix2 r z) =
    Ideal.div (∑ x : Fin 256, Ideal.logistic (zrow X W b g r ⟨1024 + x.val, by omega⟩)) (Ideal.ofBits FTy.f32 0x43800000#32) := by
  pointwise [bB, k0_pay21]

theorem lB_apply (z : Fin 1) : lB X W b g (ix2 r z) =
    Ideal.log (max (Ideal.div (∑ x : Fin 256, Ideal.logistic (zrow X W b g r ⟨768 + x.val, by omega⟩)) (Ideal.ofBits FTy.f32 0x43800000#32))
      (Ideal.ofBits FTy.f32 0x0DA24260#32)) := by
  pointwise [lB, k0_pay22]

end Forms

variable (m : (ℓ : Loc nD τ sig) → Buf (Elt Ideal) ℓ) (c : Dev nD)

/-- An argument's contents. -/
abbrev arg (b : Ref sig .tc) : Buf (Elt Ideal) ((c : Thread nD τ).loc b) := m ((c : Thread nD τ).loc b)

/-- The arguments, read off the memory. -/
def inp : Inputs := Cert.Pre_tame.inputs (arg m c main_arg0) (arg m c main_arg1) (arg m c main_arg2) (arg m c main_arg3)
  (arg m c main_arg4) (arg m c main_arg5) (arg m c main_arg6) (arg m c main_arg7) (arg m c main_arg8) (arg m c main_arg9)
  (arg m c main_arg10) (arg m c main_arg11) (arg m c main_arg12)

theorem lt_pts (t : Fin cfg0.N) : t.val < 16 := lt_of_lt_of_eq t.isLt N_0

/-- Point `t`'s token `r`. -/
def tok (t : Fin cfg0.N) (r : Fin 128) : Fin 2048 := ⟨128 * t.val + r.val, by have := lt_pts t; omega⟩

section Point

variable (t : Fin cfg0.N) (g : Fin 8) (r : Fin 128)

/-- The point's projections. -/
abbrev prow (o : Fin 1280) : EReal := zrow (iblk m c 0 t) (iblk m c 1 t) (iblk m c 2 t) g r o

theorem row_eq (o : Fin 1280) (W : Fin 256 → EReal) (b : EReal) (hW : ∀ d, wAll m c (ix2 d o) = W d) (hb : bAll m c (ix2 0 o) = b) :
    prow m c t g r o = ∑ d, (inp m c).x g (tok t r) d * W d + b := by
  refine (proj_apply (iblk m c 0 t) (iblk m c 1 t) (iblk m c 2 t) g r o (by omega)).trans ?_
  rw [w_read, b_read, hb]
  refine congrArg (· + b) (Finset.sum_congr rfl fun d _ => ?_)
  rw [hW, x_read m c t g r d (tok t r).isLt]
  rfl

theorem row_q (h : Fin 256) : prow m c t g r ⟨h.val, by omega⟩ = lin (inp m c).x (inp m c).Wq (inp m c).bq g (tok t r) h :=
  row_eq m c t g r _ _ _ (fun d => w0_apply m c d h) (b0_apply m c h)
theorem row_k (h : Fin 256) : prow m c t g r ⟨256 + h.val, by omega⟩ = lin (inp m c).x (inp m c).Wk (inp m c).bk g (tok t r) h :=
  row_eq m c t g r _ _ _ (fun d => w1_apply m c d h) (b1_apply m c h)
theorem row_v (h : Fin 256) : prow m c t g r ⟨512 + h.val, by omega⟩ = lin (inp m c).x (inp m c).Wv (inp m c).bv g (tok t r) h :=
  row_eq m c t g r _ _ _ (fun d => w2_apply m c d h) (b2_apply m c h)
theorem row_a (h : Fin 256) : prow m c t g r ⟨768 + h.val, by omega⟩ = lin (inp m c).x (inp m c).Wa (inp m c).ba g (tok t r) h :=
  row_eq m c t g r _ _ _ (fun d => w3_apply m c d h) (b3_apply m c h)
theorem row_b (h : Fin 256) : prow m c t g r ⟨1024 + h.val, by omega⟩ = lin (inp m c).x (inp m c).Wb (inp m c).bb g (tok t r) h :=
  row_eq m c t g r _ _ _ (fun d => w4_apply m c d h) (b4_apply m c h)

variable {m c}

theorem q_is : Is (qB (iblk m c 0 t) (iblk m c 1 t) (iblk m c 2 t) g) (fun r h => Inputs.up2 ((inp m c).q g) (128 * t.val + r) h) := by
  intro r h
  have e : unitE (fun x => prow m c t g r ⟨x.val, by omega⟩) = unitE (lin (inp m c).x (inp m c).Wq (inp m c).bq g (tok t r)) :=
    congrArg unitE (funext fun x => row_q m c t g r x)
  refine (qB_apply _ _ _ g r h).trans ((congrFun e h).trans ((unit_mul _ h).trans ?_))
  exact congrArg _ (Inputs.up2_of ((inp m c).q g) (tok t r).isLt h.isLt).symm

theorem k_is : Is (kB (iblk m c 0 t) (iblk m c 1 t) (iblk m c 2 t) g) (fun r h => Inputs.up2 ((inp m c).k g) (128 * t.val + r) h) := by
  intro r h
  have e : unitE (fun x => prow m c t g r ⟨256 + x.val, by omega⟩) = unitE (lin (inp m c).x (inp m c).Wk (inp m c).bk g (tok t r)) :=
    congrArg unitE (funext fun x => row_k m c t g r x)
  refine (kB_apply _ _ _ g r h).trans ((congrFun e h).trans ((unit_mul _ h).trans ?_))
  exact congrArg _ (Inputs.up2_of ((inp m c).k g) (tok t r).isLt h.isLt).symm

variable (hI : (inp m c).Good)
include hI

theorem v_is : Is (vB (iblk m c 0 t) (iblk m c 1 t) (iblk m c 2 t) g) (fun r h => Inputs.up2 ((inp m c).v g) (128 * t.val + r) h) := by
  intro r h
  rw [vB_apply, show zrow _ _ _ _ _ _ = _ from row_v m c t g r h]
  exact (hI.v g (tok t r) h).trans (congrArg _ (Inputs.up2_of ((inp m c).v g) (tok t r).isLt h.isLt).symm)

omit hI in
theorem b_is : Is (bB (iblk m c 0 t) (iblk m c 1 t) (iblk m c 2 t) g) (fun r _ => Inputs.up1 ((inp m c).b g) (128 * t.val + r)) := by
  intro r z
  rw [bB_apply, gate_eq]
  refine congrArg _ (Eq.trans ?_ (Inputs.up1_of ((inp m c).b g) (tok t r).isLt).symm)
  exact congrArg Spec.gate (funext fun x => row_b m c t g r x)

theorem l_is : Is (lB (iblk m c 0 t) (iblk m c 1 t) (iblk m c 2 t) g)
    (fun r _ => Real.log (Inputs.up1 ((inp m c).a g) (128 * t.val + r))) := by
  intro r z
  have e : Spec.gate (fun x => prow m c t g r ⟨768 + x.val, by omega⟩) = (inp m c).a g (tok t r) :=
    congrArg Spec.gate (funext fun x => row_a m c t g r x)
  rw [lB_apply, gate_eq, e, log_eq (hI.a g _)]
  exact congrArg (fun y : ℝ => (Real.log y : EReal)) (Inputs.up1_of ((inp m c).a g) (tok t r).isLt).symm

end Point

end Cert.KernelIdeal.Result

end
-- ==== Proof.KernelValue.lean ====
/- The kernel's result, for values that are finite: the layer of `Spec`. -/
module

public import proofs.«01_k».proof.Proof.KernelChunk

@[expose] public section

set_option maxRecDepth 16384
set_option maxHeartbeats 1000000

noncomputable section

open Idealize.ShloMosaic Idealize.ShloMosaic.TcCoe Idealize.SL.Sem

namespace Cert.KernelIdeal.Result

open Cert.KernelIdeal Cert.KernelIdeal.Gen Cert.KernelIdeal.Value Chunk Opened Reads
open Cert.Spec Cert.Recurrence

/-- The state reads only the decays before it. -/
theorem state_congr {a a' b : ℕ → ℝ} {k v : ℕ → ℕ → ℝ} {T : ℕ → ℕ → ℝ} (n : ℕ) (h : ∀ t, t < n → a t = a' t) :
    state a b k v T n = state a' b k v T n := by
  induction n with
  | zero => rfl
  | succ n ih => rw [state_succ, state_succ, ih fun t ht => h t (by omega), h n (by omega)]

variable {m : (ℓ : Loc nD τ sig) → Buf (Elt Ideal) ℓ} {c : Dev nD} (hI : (inp m c).Good) (t : Fin cfg0.N) (g : Fin 8)

include hI in
/-- A chunk's own run, from the state at its start, is the layer's. -/
theorem run_eq (r : ℕ) (hr : r ≤ 128) :
    state (fun s => Real.exp ((fun r _ => Real.log (Inputs.up1 ((inp m c).a g) (128 * t.val + r)) : ℕ → ℕ → ℝ) s 0))
      (fun s => (fun r _ => Inputs.up1 ((inp m c).b g) (128 * t.val + r) : ℕ → ℕ → ℝ) s 0)
      (fun r h => Inputs.up2 ((inp m c).k g) (128 * t.val + r) h) (fun r h => Inputs.up2 ((inp m c).v g) (128 * t.val + r) h)
      ((inp m c).S g (128 * t.val)) r = (inp m c).S g (128 * t.val + r) := by
  have ht := lt_pts t
  refine (state_congr r fun s hs => ?_).trans (state_shift (Inputs.up1 ((inp m c).a g)) (Inputs.up1 ((inp m c).b g))
    (Inputs.up2 ((inp m c).k g)) (Inputs.up2 ((inp m c).v g)) (fun _ _ => 0) (128 * t.val) r)
  show Real.exp (Real.log _) = _
  rw [Inputs.up1_of _ (show 128 * t.val + s < 2048 by omega)]
  exact Real.exp_log (tiny_pos.trans_le (hI.a g _))

include hI in
theorem nextS_is (S : FVec Ideal S256x256 .f32) (hS : Is S ((inp m c).S g (128 * t.val))) :
    Is (nextS (iblk m c 0 t) (iblk m c 1 t) (iblk m c 2 t) g S) ((inp m c).S g (128 * (t.val + 1))) := by
  have e := outS_is (k_is (m := m) (c := c) t g) (v_is t g hI) (b_is (m := m) (c := c) t g) (l_is t g hI) hS
  rw [run_eq hI t g 128 le_rfl] at e
  exact e

include hI in
theorem nextO_apply (S : FVec Ideal S256x256 .f32) (hS : Is S ((inp m c).S g (128 * t.val))) (r : Fin 128) (i : Fin 256) :
    nextO (iblk m c 0 t) (iblk m c 1 t) (iblk m c 2 t) g S (ix2 r i) = ((inp m c).o g (128 * t.val + r.val) i : EReal) := by
  refine (outO_is (q_is (m := m) (c := c) t g) (k_is (m := m) (c := c) t g) (v_is t g hI) (b_is (m := m) (c := c) t g) (l_is t g hI) hS r i).trans (congrArg _ ?_)
  show ∑ j ∈ Finset.range 256, _ = _
  rw [Inputs.o]
  refine Finset.sum_congr rfl fun j _ => ?_
  rw [run_eq hI t g (r.val + 1) (by omega)]
  rfl

/-- The output block, at an index. -/
theorem outBlock_apply (X : FVec Ideal S8x128x256 .f32) (W : FVec Ideal S256x1280 .bf16) (b : FVec Ideal S1x1280 .f32)
    (Wo : FVec Ideal S256x256 .bf16) (bo : FVec Ideal S1x256 .f32) (S : Fin 8 → FVec Ideal S256x256 .f32)
    (g : Fin 8) (r : Fin 128) (h : Fin 256) :
    outBlock X W b Wo bo S (ix3 g r h) = ∑ x : Fin 256, nextO X W b g (S g) (ix2 r x) * Wo (ix2 x h) + bo (ix2 0 h) := by
  have hr := r.isLt
  fin_cases g
  all_goals
    pointwise [outBlock, k0_pay2] <;>
    · refine congrArg (· + _) (Finset.sum_congr rfl fun x _ => congrArg (· * _) ?_)
      repeat first
        | rw [dif_neg (by omega)]
        | rw [dif_pos (by omega)]
      refine congrArg (fun r' => nextO X W b _ (S _) (ix2 r' x)) (Fin.ext ?_)
      dsimp only
      omega

/-- The first point's states are zero. -/
theorem zero_is : Is zeroS ((inp m c).S g 0) := by
  intro i j
  pointwise [zeroS]
  exact EReal.coe_zero.symm

include hI in
/-- The states after point `n`. -/
theorem states_is (n : ℕ) (hn : n < cfg0.N) (g : Fin 8) :
    Is (states (outsAt0 m c n hn) g) ((inp m c).S g (128 * (n + 1))) := by
  induction n with
  | zero =>
    rw [show outsAt0 m c 0 hn = step m c ⟨0, hn⟩ (fun _ => zeroS) from outs_first m c ⟨0, hn⟩ rfl, step, states_pack]
    exact nextS_is hI ⟨0, hn⟩ g _ (zero_is g)
  | succ n ih =>
    have h16 := lt_pts ⟨n + 1, hn⟩
    rw [show outsAt0 m c (n + 1) hn = step m c ⟨n + 1, hn⟩ (states (outsAt0 m c n (by omega))) from
      outs_later m c ⟨n + 1, hn⟩ (by show ¬ (n + 1) % 16 = 0; have : n + 1 < 16 := h16; omega), step, states_pack]
    exact nextS_is hI ⟨n + 1, hn⟩ g _ (ih (by omega))

include hI in
/-- A step from the layer's states leaves the layer's outputs. -/
theorem step_apply (S : Fin 8 → FVec Ideal S256x256 .f32) (hS : ∀ g, Is (S g) ((inp m c).S g (128 * t.val)))
    (r : Fin 128) (h : Fin 256) :
    (step m c t S).1 (ix3 g r h) = (inp m c).result g (tok t r) h := by
  show outBlock _ _ _ _ _ S (ix3 g r h) = _
  rw [outBlock_apply, bo_read]
  refine congrArg (· + _) (Finset.sum_congr rfl fun x _ => ?_)
  rw [nextO_apply hI t g (S g) (hS g) r x, wo_read]
  rfl

include hI in
/-- What a point writes. -/
theorem outs_apply (r : Fin 128) (h : Fin 256) :
    (outsAt0 m c t.val t.isLt).1 (ix3 g r h) = (inp m c).result g (tok t r) h := by
  have h16 := lt_pts t
  by_cases h0 : t.val = 0
  · rw [outs_first m c t (by omega)]
    exact step_apply hI t g _ (fun g => by rw [h0]; exact zero_is g) r h
  · rw [outs_later m c t (by omega)]
    refine step_apply hI t g _ (fun g => ?_) r h
    have := states_is hI (t.val - 1) (by omega) g
    rwa [show t.val - 1 + 1 = t.val by omega] at this

include hI in
/-- The kernel returns the layer's result. -/
theorem result (T : Fin 2048) (h : Fin 256) : G5 m c (ix3 g T h) = (inp m c).result g T h := by
  have hT := T.isLt
  have hg := g.isLt
  have hh := h.isLt
  have e : pt5Of (ix3 g T h) = T.val / 128 := by
    show 16 * (g.val / 8 - 0) + 1 * (T.val / 128 - 0) + 1 * (h.val / 256 - 0) = _
    omega
  have hp : T.val / 128 < cfg0.N := by rw [show cfg0.N = 16 from N_0]; omega
  have el : loc5Of (ix3 g T h) = ix3 g ⟨T.val % 128, by omega⟩ h := by
    funext a
    match a with
    | ⟨0, _⟩ => exact Fin.ext (Nat.mod_eq_of_lt hg)
    | ⟨1, _⟩ => rfl
    | ⟨2, _⟩ => exact Fin.ext (Nat.mod_eq_of_lt hh)
  have o := outs_apply hI ⟨T.val / 128, hp⟩ g ⟨T.val % 128, by omega⟩ h
  rw [outsAt0_sweep] at o
  unfold G5
  rw [dif_pos (by rw [e]; exact hp), el, fold0_congr m c _ _ _ _ e]
  refine o.trans (congrArg (fun s => (inp m c).result g s h) (Fin.ext ?_))
  show 128 * (T.val / 128) + T.val % 128 = T.val
  omega

end Cert.KernelIdeal.Result

end
-- ==== Proof.Claims.lean ====
/- The claims, one theorem each: the frames are the generated runs, the named constant is a statement of the rule, and the two
   programs' results are both the layer of `Spec` (`KernelValue`, `RefValue`). -/
module

public import proofs.«01_k».proof.Defs
public import proofs.«01_k».proof.Proof.Gen.Kernel
public import proofs.«01_k».proof.Proof.Gen.Kernel.Frame
public import proofs.«01_k».proof.Proof.KernelValue
public import Idealize.ShloMosaic.Lib.Claim

@[expose] public section

set_option maxRecDepth 16384
set_option maxHeartbeats 1000000

noncomputable section

open Idealize.ShloMosaic Idealize.ShloMosaic.TcCoe Idealize.SL.Sem

namespace Cert.Proof

open Cert.ReferenceIdeal.Result (f1 f2 f3)

/-- The kernel as printed runs and leaves its arguments as they were. -/
theorem frame_p : Cert.quiescent_Kernel := fun m g _ => Cert.Kernel.Gen.frame m g

/-- So does its idealization. -/
theorem frame_pi : Cert.quiescent_KernelIdeal := fun m g _ => Cert.KernelIdeal.Gen.frame m g

/-- The reference has no semaphore, so its run is a frame. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The mask's pattern stands for `-∞` in the idealization. -/
theorem preserves : Cert.preserves_Kernel_KernelIdeal :=
  IdealRules.named_const.statement Cert.KernelIdeal.κ "mask" .f32 0xF149F2CA#32 ⊥ rfl

/-- Arrays of three axes are equal when they are equal at every triple. -/
theorem ext3 {F G : FVec Ideal Cert.ReferenceIdeal.S8x2048x256 .f32} (h : ∀ g T k, F (ix3 g T k) = G (ix3 g T k)) : F = G := by
  funext j
  have e : ix3 (j 0) (j 1) (j 2) = j := by
    funext a
    match a with
    | ⟨0, _⟩ => rfl
    | ⟨1, _⟩ => rfl
    | ⟨2, _⟩ => rfl
  rw [← e]
  exact h _ _ _

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- From memories with the same arguments the two programs' results are one array. -/
theorem results_eq (c : Dev Cert.KernelIdeal.nD) (hI : (Cert.KernelIdeal.Result.inp m c).Good)
    (e : Cert.ReferenceIdeal.Result.inp m' c = Cert.KernelIdeal.Result.inp m c) :
    (Cert.ReferenceIdeal.Value.out_main_v75 (Cert.ReferenceIdeal.Value.STEP^[2048] (Cert.ReferenceIdeal.Result.E m' c))
      : FVec Ideal Cert.ReferenceIdeal.S8x2048x256 .f32) = Cert.KernelIdeal.Value.G5 m c := by
  refine ext3 fun g T h => ?_
  have r := Cert.ReferenceIdeal.Result.result (m := m') (c := c) (e.symm ▸ hI) g T h
  rw [e] at r
  exact r.trans (Cert.KernelIdeal.Result.result hI g T h).symm

end

/-- Under the precondition the idealized kernel and the reference end with the same result. -/
theorem algebraic : Cert.algebraic_KernelIdeal_ReferenceIdeal_pre_tame := by
  intro m g m' g' hpre h
  refine ⟨fun c => Cert.KernelIdeal.Value.G5 m c, Cert.KernelIdeal.Value.run (F := Ideal) m g, ?_⟩
  refine (θ_run Cert.ReferenceIdeal.defs _ _).mono (fun _ hr c => ⟨(hr c).1.trans ?_, (hr c).2⟩)
    (Cert.ReferenceIdeal.Value.run (F := Ideal) m' g')
  refine results_eq m m' c (Cert.Pre_tame.good _ _ _ _ _ _ _ _ _ _ _ _ _ (hpre c)) ?_
  obtain ⟨h0, h1, h2, h3, h4, h5, h6, h7, h8, h9, h10, h11, h12⟩ := h c
  unfold Cert.ReferenceIdeal.Result.inp Cert.KernelIdeal.Result.inp Cert.Pre_tame.inputs
  rw [Cert.Spec.Inputs.mk.injEq]
  exact ⟨congrArg f3 h0, congrArg f2 h1, congrArg f1 h2, congrArg f2 h3, congrArg f1 h4, congrArg f2 h5, congrArg f1 h6,
    congrArg f2 h7, congrArg f1 h8, congrArg f2 h9, congrArg f1 h10, congrArg f2 h11, congrArg f1 h12⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Claims
public import Idealize.ShloMosaic.Adequacy
public import Idealize.ShloMosaic.Init

@[expose] public section

noncomputable section

namespace Cert.Proof

/-- Everything the certificate claims. The frames under the precondition are the frames without it. -/
theorem claim : Cert.Claim :=
  ⟨Cert.Kernel.Gen.facts, Cert.KernelIdeal.Gen.facts, Cert.ReferenceIdeal.Gen.facts, Cert.Pre_tame.facts,
    frame_p, frame_pi, fun m g _ => frame_pi m g trivial, frame_ri, fun m g _ => frame_ri m g trivial, preserves, algebraic⟩

end Cert.Proof

end
